-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15)
      ∧ r.2.mem ((c.tc : Thread Cert.TailRefIdeal.nD Cert.TailRefIdeal.τ).loc Cert.TailRefIdeal.main_arg16) = m ((c.tc : Thread Cert.TailRefIdeal.nD Cert.TailRefIdeal.τ).loc Cert.TailRefIdeal.main_arg16)
      ∧ r.2.mem ((c.tc : Thread Cert.TailRefIdeal.nD Cert.TailRefIdeal.τ).loc Cert.TailRefIdeal.main_arg17) = m ((c.tc : Thread Cert.TailRefIdeal.nD Cert.TailRefIdeal.τ).loc Cert.TailRefIdeal.main_arg17)
      ∧ r.2.mem ((c.tc : Thread Cert.TailRefIdeal.nD Cert.TailRefIdeal.τ).loc Cert.TailRefIdeal.main_arg18) = m ((c.tc : Thread Cert.TailRefIdeal.nD Cert.TailRefIdeal.τ).loc Cert.TailRefIdeal.main_arg18))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14))
      ∧ r.2.sem = fun _ => 0)

def preserves_Attn_AttnIdeal : Prop :=
  IdealRules.named_const.Statement Cert.AttnIdeal.κ "q_scale" .f32 0x3DD53B95#32 (((Real.sqrt 192)⁻¹ * (Real.log 2)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v8)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v19) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)
      ∧ m' ((c.tc : Thread Cert.TailRefIdeal.nD Cert.TailRefIdeal.τ).loc Cert.TailRefIdeal.main_arg16) = m ((c.tc : Thread Cert.TailIdeal.nD Cert.TailIdeal.τ).loc Cert.TailIdeal.main_arg16)
      ∧ m' ((c.tc : Thread Cert.TailRefIdeal.nD Cert.TailRefIdeal.τ).loc Cert.TailRefIdeal.main_arg17) = m ((c.tc : Thread Cert.TailIdeal.nD Cert.TailIdeal.τ).loc Cert.TailIdeal.main_arg17)
      ∧ m' ((c.tc : Thread Cert.TailRefIdeal.nD Cert.TailRefIdeal.τ).loc Cert.TailRefIdeal.main_arg18) = m ((c.tc : Thread Cert.TailIdeal.nD Cert.TailIdeal.τ).loc Cert.TailIdeal.main_arg18)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v108) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15)
          ∧ r.2.mem ((c.tc : Thread Cert.TailRefIdeal.nD Cert.TailRefIdeal.τ).loc Cert.TailRefIdeal.main_arg16) = m' ((c.tc : Thread Cert.TailRefIdeal.nD Cert.TailRefIdeal.τ).loc Cert.TailRefIdeal.main_arg16)
          ∧ r.2.mem ((c.tc : Thread Cert.TailRefIdeal.nD Cert.TailRefIdeal.τ).loc Cert.TailRefIdeal.main_arg17) = m' ((c.tc : Thread Cert.TailRefIdeal.nD Cert.TailRefIdeal.τ).loc Cert.TailRefIdeal.main_arg17)
          ∧ r.2.mem ((c.tc : Thread Cert.TailRefIdeal.nD Cert.TailRefIdeal.τ).loc Cert.TailRefIdeal.main_arg18) = m' ((c.tc : Thread Cert.TailRefIdeal.nD Cert.TailRefIdeal.τ).loc Cert.TailRefIdeal.main_arg18))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)) →
    ∃ (v0 : (c : Dev Cert.InprojIdeal.nD) → Buf (Elt Ideal) ((c.tc : Thread Cert.InprojIdeal.nD Cert.InprojIdeal.τ).loc Cert.InprojIdeal.main_v67_0)) (v1 : (c : Dev Cert.InprojIdeal.nD) → Buf (Elt Ideal) ((c.tc : Thread Cert.InprojIdeal.nD Cert.InprojIdeal.τ).loc Cert.InprojIdeal.main_v67_1)) (v2 : (c : Dev Cert.InprojIdeal.nD) → Buf (Elt Ideal) ((c.tc : Thread Cert.InprojIdeal.nD Cert.InprojIdeal.τ).loc Cert.InprojIdeal.main_v67_2)) (v3 : (c : Dev Cert.InprojIdeal.nD) → Buf (Elt Ideal) ((c.tc : Thread Cert.InprojIdeal.nD Cert.InprojIdeal.τ).loc Cert.InprojIdeal.main_v67_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v67_0) = v0 c
          ∧ r.2.mem ((c.tc : Thread Cert.InprojIdeal.nD Cert.InprojIdeal.τ).loc Cert.InprojIdeal.main_v67_1) = v1 c
          ∧ r.2.mem ((c.tc : Thread Cert.InprojIdeal.nD Cert.InprojIdeal.τ).loc Cert.InprojIdeal.main_v67_2) = v2 c
          ∧ r.2.mem ((c.tc : Thread Cert.InprojIdeal.nD Cert.InprojIdeal.τ).loc Cert.InprojIdeal.main_v67_5) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v38) = v0 c
          ∧ r.2.mem ((c.tc : Thread Cert.InprojRefIdeal.nD Cert.InprojRefIdeal.τ).loc Cert.InprojRefIdeal.main_v39) = v1 c
          ∧ r.2.mem ((c.tc : Thread Cert.InprojRefIdeal.nD Cert.InprojRefIdeal.τ).loc Cert.InprojRefIdeal.main_v40) = v2 c
          ∧ r.2.mem ((c.tc : Thread Cert.InprojRefIdeal.nD Cert.InprojRefIdeal.τ).loc Cert.InprojRefIdeal.main_v41) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hTail : Cert.Tail.Facts) (hTailIdeal : Cert.TailIdeal.Facts) (hTailRefIdeal : Cert.TailRefIdeal.Facts) (hInproj : Cert.Inproj.Facts) (hInprojIdeal : Cert.InprojIdeal.Facts) (hInprojRefIdeal : Cert.InprojRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Tail (hTail := hTail)
    ∧ quiescent_TailIdeal (hTailIdeal := hTailIdeal)
    ∧ quiescent_TailRefIdeal (hTailRefIdeal := hTailRefIdeal)
    ∧ quiescent_Inproj (hInproj := hInproj)
    ∧ quiescent_InprojIdeal (hInprojIdeal := hInprojIdeal)
    ∧ quiescent_InprojRefIdeal (hInprojRefIdeal := hInprojRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Tail_TailIdeal
    ∧ algebraic_TailIdeal_TailRefIdeal (hTailIdeal := hTailIdeal) (hTailRefIdeal := hTailRefIdeal)
    ∧ preserves_Inproj_InprojIdeal
    ∧ algebraic_InprojIdeal_InprojRefIdeal (hInprojIdeal := hInprojIdeal) (hInprojRefIdeal := hInprojRefIdeal)
-- ==== Pre_finite.lean ====
abbrev S8x8x4096x192 : Shape := ⟨4, ![8, 8, 4096, 192]⟩
abbrev S8x8x4096x128 : Shape := ⟨4, ![8, 8, 4096, 128]⟩
abbrev S_ : Shape := ⟨0, ![]⟩

class Facts : Prop where
  bcast_S_S8x8x4096x192 : S_.BroadcastsInDim S8x8x4096x192 (![] : Fin 0 → Fin S8x8x4096x192.rank)
  reducesTo_S8x8x4096x192_S_d0_1_2_3 : S8x8x4096x192.ReducesTo [0, 1, 2, 3] S_
  h_S_ : 0 < S_.numel

variable [Facts]

def fn {F : FTy → Type} [FloatOps F] (main_arg0 : FVec F S8x8x4096x192 .f32) (main_arg1 : FVec F S8x8x4096x192 .f32) (main_arg2 : FVec F S8x8x4096x128 .f32) : IVec S_ 1 :=
  let main_v0 : FVec F S8x8x4096x192 .f32 := Host.absf main_arg0
  let main_cst : FVec F S_ .f32 := constant S_ .f32 0x7F800000#32
  let main_v1 : FVec F S8x8x4096x192 .f32 := broadcastInDim S8x8x4096x192 ![] bcast_S_S8x8x4096x192 main_cst
  let main_v2 : IVec S8x8x4096x192 1 := cmpf .olt main_v0 main_v1
  let main_c : IVec S_ 1 := constantI S_ 1 1#1
  let main_v3 : IVec S_ 1 := (fun x v => Host.reduce IntOp.andi x v reducesTo_S8x8x4096x192_S_d0_1_2_3 h_S_) main_v2 main_c
  let main_v4 : FVec F S8x8x4096x192 .f32 := Host.absf main_arg1
  let main_cst_0 : FVec F S_ .f32 := constant S_ .f32 0x7F800000#32
  let main_v5 : FVec F S8x8x4096x192 .f32 := broadcastInDim S8x8x4096x192 ![] bcast_S_S8x8x4096x192 main_cst_0
  let main_v6 : IVec S8x8x4096x192 1 := cmpf .olt main_v4 main_v5
  let main_c_1 : IVec S_ 1 := constantI S_ 1 1#1
  let main_v7 : IVec S_ 1 := (fun x v => Host.reduce IntOp.andi x v reducesTo_S8x8x4096x192_S_d0_1_2_3 h_S_) main_v6 main_c_1
  let main_v8 : IVec S_ 1 := andi main_v3 main_v7
  main_v8
-- ==== Attn.lean ====
abbrev S8x8x4096x192 : Shape := ⟨4, ![8, 8, 4096, 192]⟩
abbrev S8x8x4096x128 : Shape := ⟨4, ![8, 8, 4096, 128]⟩
abbrev S_ : Shape := ⟨0, ![]⟩
abbrev S8x8x4096x64 : Shape := ⟨4, ![8, 8, 4096, 64]⟩
abbrev S8x8x4096x1 : Shape := ⟨4, ![8, 8, 4096, 1]⟩
abbrev S8x8x4096x63 : Shape := ⟨4, ![8, 8, 4096, 63]⟩
abbrev S8x8x4096x256 : Shape := ⟨4, ![8, 8, 4096, 256]⟩
abbrev S8x4096x1024 : Shape := ⟨3, ![8, 4096, 1024]⟩
abbrev S1x1x2048x256 : Shape := ⟨4, ![1, 1, 2048, 256]⟩
abbrev S1x1x4096x256 : Shape := ⟨4, ![1, 1, 4096, 256]⟩
abbrev S1x1x4096x128 : Shape := ⟨4, ![1, 1, 4096, 128]⟩
abbrev S1x2048x128 : Shape := ⟨3, ![1, 2048, 128]⟩
abbrev S2x4096x1024 : Shape := ⟨3, ![2, 4096, 1024]⟩
abbrev S128x4096 : Shape := ⟨2, ![128, 4096]⟩
abbrev S1x256 : Shape := ⟨2, ![1, 256]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x1x1024x256 : Shape := ⟨4, ![1, 1, 1024, 256]⟩
abbrev S1024x256 : Shape := ⟨2, ![1024, 256]⟩
abbrev S1024 : Shape := ⟨1, ![1024]⟩
abbrev S1024x1 : Shape := ⟨2, ![1024, 1]⟩
abbrev S4096x1024 : Shape := ⟨2, ![4096, 1024]⟩
abbrev S1x4096x1024 : Shape := ⟨3, ![1, 4096, 1024]⟩
abbrev S1x1024 : Shape := ⟨2, ![1, 1024]⟩
abbrev S128x1024 : Shape := ⟨2, ![128, 1024]⟩
abbrev S1024x128 : Shape := ⟨2, ![1024, 128]⟩
abbrev S1x1024x128 : Shape := ⟨3, ![1, 1024, 128]⟩
abbrev S1x1x1024 : Shape := ⟨3, ![1, 1, 1024]⟩
abbrev S1x1x1 : Shape := ⟨3, ![1, 1, 1]⟩

abbrev nBuf : Space → Nat
  | .hbm => 15
  | .vmem => 11
  | .smem => 0
  | _ => 0

abbrev bufTy : (tb : Table) → Fin (tcTables nBuf tb) → BufTy
  | .hbm, ⟨0, _⟩ => ⟨S8x8x4096x192, .f32⟩
  | .hbm, ⟨1, _⟩ => ⟨S8x8x4096x192, .f32⟩
  | .hbm, ⟨2, _⟩ => ⟨S8x8x4096x128, .f32⟩
  | .hbm, ⟨3, _⟩ => ⟨S_, .f32⟩
  | .hbm, ⟨4, _⟩ => ⟨S8x8x4096x64, .f32⟩
  | .hbm, ⟨5, _⟩ => ⟨S_, .f32⟩
  | .hbm, ⟨6, _⟩ => ⟨S8x8x4096x1, .f32⟩
  | .hbm, ⟨7, _⟩ => ⟨S_, .f32⟩
  | .hbm, ⟨8, _⟩ => ⟨S8x8x4096x63, .f32⟩
  | .hbm, ⟨9, _⟩ => ⟨S8x8x4096x256, .f32⟩
  | .hbm, ⟨10, _⟩ => ⟨S8x8x4096x256, .bf16⟩
  | .hbm, ⟨11, _⟩ => ⟨S8x8x4096x256, .f32⟩
  | .hbm, ⟨12, _⟩ => ⟨S8x8x4096x256, .bf16⟩
  | .hbm, ⟨13, _⟩ => ⟨S8x8x4096x128, .bf16⟩
  | .hbm, ⟨14, _⟩ => ⟨S8x4096x1024, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x4096x1024, .bf16⟩
  | .local _ .vmem, ⟨9, _⟩ => ⟨S128x4096, .bf16⟩
  | .local _ .vmem, ⟨10, _⟩ => ⟨S1x256, .f32⟩
  | _, _ => ⟨S8x8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "q_scale" => some (((Real.sqrt 192)⁻¹ * (Real.log 2)⁻¹ : ℝ) : EReal)
  | _ => none
-- ==== AttnRefIdeal.lean ====
abbrev S8x8x4096x192 : Shape := ⟨4, ![8, 8, 4096, 192]⟩
abbrev S8x8x4096x128 : Shape := ⟨4, ![8, 8, 4096, 128]⟩
abbrev S_ : Shape := ⟨0, ![]⟩
abbrev S8x8x4096x4096 : Shape := ⟨4, ![8, 8, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x8x128 : Shape := ⟨4, ![8, 4096, 8, 128]⟩
abbrev S8x4096x1024 : Shape := ⟨3, ![8, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x8x4096x192, .f32⟩
  | .hbm, ⟨1, _⟩ => ⟨S8x8x4096x192, .f32⟩
  | .hbm, ⟨2, _⟩ => ⟨S8x8x4096x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8x4096x4096, .f32⟩
  | .hbm, ⟨8, _⟩ => ⟨S8x8x4096x4096, .f32⟩
  | .hbm, ⟨9, _⟩ => ⟨S8x8x4096x4096, .f32⟩
  | .hbm, ⟨10, _⟩ => ⟨S_, .f32⟩
  | .hbm, ⟨11, _⟩ => ⟨S8x8x4096, .f32⟩
  | .hbm, ⟨12, _⟩ => ⟨S_, .f32⟩
  | .hbm, ⟨13, _⟩ => ⟨S8x8x4096, .f32⟩
  | .hbm, ⟨14, _⟩ => ⟨S8x8x4096, .f32⟩
  | .hbm, ⟨15, _⟩ => ⟨S8x8x4096x1, .f32⟩
  | .hbm, ⟨16, _⟩ => ⟨S8x8x4096x4096, .f32⟩
  | .hbm, ⟨17, _⟩ => ⟨S8x8x4096x4096, .f32⟩
  | .hbm, ⟨18, _⟩ => ⟨S8x8x4096x4096, .f32⟩
  | .hbm, ⟨19, _⟩ => ⟨S_, .f32⟩
  | .hbm, ⟨20, _⟩ => ⟨S8x8x4096, .f32⟩
  | .hbm, ⟨21, _⟩ => ⟨S8x8x4096x1, .f32⟩
  | .hbm, ⟨22, _⟩ => ⟨S8x8x4096x4096, .f32⟩
  | .hbm, ⟨23, _⟩ => ⟨S8x8x4096x4096, .f32⟩
  | .hbm, ⟨24, _⟩ => ⟨S8x8x128x4096, .f32⟩
  | .hbm, ⟨25, _⟩ => ⟨S8x4096x8x128, .f32⟩
  | .hbm, ⟨26, _⟩ => ⟨S8x4096x1024, .f32⟩
  | .hbm, ⟨27, _⟩ => ⟨S8x4096x1024, .bf16⟩
  | _, _ => ⟨S8x8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Ffn.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x512x1024, .f32⟩
  | .local _ .vmem, ⟨7, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Tail.lean ====
abbrev S8x4096x1024 : Shape := ⟨3, ![8, 4096, 1024]⟩
abbrev S1x8x4096x256 : Shape := ⟨4, ![1, 8, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S1x512x1024 : Shape := ⟨3, ![1, 512, 1024]⟩
abbrev S1x1x512x256 : Shape := ⟨4, ![1, 1, 512, 256]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩

abbrev nBuf : Space → Nat
  | .hbm => 32
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .bf16⟩
  | .hbm, ⟨6, _⟩ => ⟨S1x8x4096x256, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024, .f32⟩
  | .hbm, ⟨15, _⟩ => ⟨S1024x1024, .f32⟩
  | .hbm, ⟨16, _⟩ => ⟨S256x1024, .f32⟩
  | .hbm, ⟨17, _⟩ => ⟨S1024, .f32⟩
  | .hbm, ⟨18, _⟩ => ⟨S1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S1x1024, .f32⟩
  | .hbm, ⟨27, _⟩ => ⟨S1024x1024, .bf16⟩
  | .hbm, ⟨28, _⟩ => ⟨S256x1024, .bf16⟩
  | .hbm, ⟨29, _⟩ => ⟨S1x1024, .f32⟩
  | .hbm, ⟨30, _⟩ => ⟨S1x1024, .f32⟩
  | .hbm, ⟨31, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1x512x256, .f32⟩
  | .local _ .vmem, ⟨13, _⟩ => ⟨S1x1x512x256, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S1x1024, .f32⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== TailRefIdeal.lean ====
abbrev S8x4096x1024 : Shape := ⟨3, ![8, 4096, 1024]⟩
abbrev S1x8x4096x256 : Shape := ⟨4, ![1, 8, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4096x256 : Shape := ⟨3, ![8, 4096, 256]⟩

abbrev nBuf : Space → Nat
  | .hbm => 159
  | .vmem => 0
  | .smem => 0
  | _ => 0

abbrev hbmTy0_0 (i : Nat) : BufTy := match i % 128 with
  | 0 => ⟨S8x4096x1024, .f32⟩
  | 1 => ⟨S8x4096x1024, .bf16⟩
  | 2 => ⟨S8x4096x1024, .bf16⟩
  | 3 => ⟨S8x4096x1024, .bf16⟩
  | 4 => ⟨S8x4096x1024, .bf16⟩
  | 5 => ⟨S8x4096x1024, .bf16⟩
  | 6 => ⟨S1x8x4096x256, .f32⟩
  | 7 => ⟨S1024x1024, .f32⟩
  | 8 => ⟨S1024x1024, .f32⟩
  | 9 => ⟨S1024x1024, .f32⟩
  | 10 => ⟨S1024, .f32⟩
  | 11 => ⟨S1024x2816, .f32⟩
  | 12 => ⟨S1024x2816, .f32⟩
  | 13 => ⟨S2816x1024, .f32⟩
  | 14 => ⟨S1024, .f32⟩
  | 15 => ⟨S1024x1024, .f32⟩
  | 16 => ⟨S256x1024, .f32⟩
  | 17 => ⟨S1024, .f32⟩
  | 18 => ⟨S1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S_, .f32⟩
  | 24 => ⟨S8x4096x1024, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S8x4096x1024, .f32⟩
  | 31 => ⟨S_, .f32⟩
  | 32 => ⟨S8x4096x1024, .f32⟩
  | 33 => ⟨S8x4096x1024, .f32⟩
  | 34 => ⟨S_, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S_, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S_, .f32⟩
  | 67 => ⟨S8x4096, .f32⟩
  | 68 => ⟨S8x4096x1, .f32⟩
  | 69 => ⟨S_, .f32⟩
  | 70 => ⟨S8x4096x1, .f32⟩
  | 71 => ⟨S8x4096x1, .f32⟩
  | 72 => ⟨S_, .f32⟩
  | 73 => ⟨S8x4096x1, .f32⟩
  | 74 => ⟨S8x4096x1, .f32⟩
  | 75 => ⟨S8x4096x1, .f32⟩
  | 76 => ⟨S8x4096x1024, .f32⟩
  | 77 => ⟨S8x4096x1024, .f32⟩
  | 78 => ⟨S1x1x1024, .f32⟩
  | 79 => ⟨S8x4096x1024, .f32⟩
  | 80 => ⟨S8x4096x1024, .f32⟩
  | 81 => ⟨S8x4096x2816, .f32⟩
  | 82 => ⟨S8x4096x2816, .f32⟩
  | 83 => ⟨S8x4096x2816, .f32⟩
  | 84 => ⟨S_, .f32⟩
  | 85 => ⟨S8x4096x2816, .f32⟩
  | 86 => ⟨S8x4096x2816, .f32⟩
  | 87 => ⟨S_, .f32⟩
  | 88 => ⟨S8x4096x2816, .f32⟩
  | 89 => ⟨S8x4096x2816, .f32⟩
  | 90 => ⟨S8x4096x2816, .f32⟩
  | 91 => ⟨S8x4096x2816, .f32⟩
  | 92 => ⟨S8x4096x2816, .f32⟩
  | 93 => ⟨S8x4096x1024, .f32⟩
  | 94 => ⟨S_, .f32⟩
  | 95 => ⟨S8x4096x1024, .f32⟩
  | 96 => ⟨S8x4096x1024, .f32⟩
  | 97 => ⟨S8x4096x1024, .f32⟩
  | 98 => ⟨S8x4096x1024, .f32⟩
  | 99 => ⟨S_, .f32⟩
  | 100 => ⟨S8x4096, .f32⟩
  | 101 => ⟨S8x4096x1, .f32⟩
  | 102 => ⟨S_, .f32⟩
  | 103 => ⟨S8x4096x1, .f32⟩
  | 104 => ⟨S8x4096x1, .f32⟩
  | 105 => ⟨S_, .f32⟩
  | 106 => ⟨S8x4096x1, .f32⟩
  | 107 => ⟨S8x4096x1, .f32⟩
  | 108 => ⟨S8x4096x1, .f32⟩
  | 109 => ⟨S8x4096x1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S_, .f32⟩
  | 118 => ⟨S8x4096x1024, .f32⟩
  | 119 => ⟨S8x4096x1024, .f32⟩
  | 120 => ⟨S_, .f32⟩
  | 121 => ⟨S8x4096x1024, .f32⟩
  | 122 => ⟨S8x4096x1024, .f32⟩
  | 123 => ⟨S8x4096x256, .f32⟩
  | 124 => ⟨S8x4096x1024, .f32⟩
  | 125 => ⟨S8x4096x1024, .f32⟩
  | 126 => ⟨S_, .f32⟩
  | 127 => ⟨S8x4096, .f32⟩
  | _ => ⟨S8x4096x1024, .f32⟩

abbrev hbmTy0_1 (i : Nat) : BufTy := match i % 128 with
  | 0 => ⟨S8x4096x1, .f32⟩
  | 1 => ⟨S_, .f32⟩
  | 2 => ⟨S8x4096x1, .f32⟩
  | 3 => ⟨S8x4096x1, .f32⟩
  | 4 => ⟨S_, .f32⟩
  | 5 => ⟨S8x4096x1, .f32⟩
  | 6 => ⟨S8x4096x1, .f32⟩
  | 7 => ⟨S8x4096x1, .f32⟩
  | 8 => ⟨S8x4096x1024, .f32⟩
  | 9 => ⟨S8x4096x1024, .f32⟩
  | 10 => ⟨S1x1x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_10 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_v61 : Ref sig .tc := ⟨.hbm, 101, rfl⟩
abbrev main_cst_12 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_cst_15 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_16 : Ref sig .tc := ⟨.hbm, 126, rfl⟩
abbrev main_v82 : Ref sig .tc := ⟨.hbm, 127, rfl⟩
abbrev main_v83 : Ref sig .tc := ⟨.hbm, 128, rfl⟩
abbrev main_cst_17 : Ref sig .tc := ⟨.hbm, 129, rfl⟩
abbrev main_v84 : Ref sig .tc := ⟨.hbm, 130, rfl⟩
abbrev main_v85 : Ref sig .tc := ⟨.hbm, 131, rfl⟩
abbrev main_cst_18 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_19 : Ref sig .tc := ⟨.hbm, 144, rfl⟩
abbrev main_v97 : Ref sig .tc := ⟨.hbm, 145, rfl⟩
abbrev main_v98 : Ref sig .tc := ⟨.hbm, 146, rfl⟩
abbrev main_cst_20 : Ref sig .tc := ⟨.hbm, 147, rfl⟩
abbrev main_v99 : Ref sig .tc := ⟨.hbm, 148, rfl⟩
abbrev main_v100 : Ref sig .tc := ⟨.hbm, 149, rfl⟩
abbrev main_cst_21 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩

abbrev nD : Nat := 1
abbrev τ : Topo := Topo.v7x

variable {F : FTy → Type} [FloatOps F]
-- ==== Inproj.lean ====
abbrev S8x4096x1024 : Shape := ⟨3, ![8, 4096, 1024]⟩
abbrev S8x4096 : Shape := ⟨2, ![8, 4096]⟩
abbrev S1024 : Shape := ⟨1, ![1024]⟩
abbrev S1024x4800 : Shape := ⟨2, ![1024, 4800]⟩
abbrev S4x1024 : Shape := ⟨2, ![4, 1024]⟩
abbrev S8x128x128 : Shape := ⟨3, ![8, 128, 128]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x64x64 : Shape := ⟨3, ![8, 64, 64]⟩
abbrev S64x8x64 : Shape := ⟨3, ![64, 8, 64]⟩
abbrev S64x4x128 : Shape := ⟨3, ![64, 4, 128]⟩
abbrev S64x128x4 : Shape := ⟨3, ![64, 128, 4]⟩
abbrev S64x128x4x32 : Shape := ⟨4, ![64, 128, 4, 32]⟩
abbrev S64x128x128 : Shape := ⟨3, ![64, 128, 128]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S1024x64 : Shape := ⟨2, ![1024, 64]⟩
abbrev S1024x2688 : Shape := ⟨2, ![1024, 2688]⟩
abbrev S1024x32 : Shape := ⟨2, ![1024, 32]⟩
abbrev S1024x128 : Shape := ⟨2, ![1024, 128]⟩
abbrev S1024x1024 : Shape := ⟨2, ![1024, 1024]⟩
abbrev S384x8x192 : Shape := ⟨3, ![384, 8, 192]⟩
abbrev S384x8x64 : Shape := ⟨3, ![384, 8, 64]⟩
abbrev S384x8x32 : Shape := ⟨3, ![384, 8, 32]⟩
abbrev S384x8x256 : Shape := ⟨3, ![384, 8, 256]⟩
abbrev S384x2048 : Shape := ⟨2, ![384, 2048]⟩
abbrev S8x128x256 : Shape := ⟨3, ![8, 128, 256]⟩
abbrev S1x1024 : Shape := ⟨2, ![1, 1024]⟩
abbrev S1x384 : Shape := ⟨2, ![1, 384]⟩
abbrev S1x256 : Shape := ⟨2, ![1, 256]⟩
abbrev S8x8x4096x256 : Shape := ⟨4, ![8, 8, 4096, 256]⟩
abbrev S8x8x4096x128 : Shape := ⟨4, ![8, 8, 4096, 128]⟩
abbrev S8x32768x128 : Shape := ⟨3, ![8, 32768, 128]⟩
abbrev S8x64x1024 : Shape := ⟨3, ![8, 64, 1024]⟩
abbrev S8x8x1024 : Shape := ⟨3, ![8, 8, 1024]⟩
abbrev S1x128x128 : Shape := ⟨3, ![1, 128, 128]⟩
abbrev S8x8x64x256 : Shape := ⟨4, ![8, 8, 64, 256]⟩
abbrev S8x8x64x128 : Shape := ⟨4, ![8, 8, 64, 128]⟩
abbrev S8x512x128 : Shape := ⟨3, ![8, 512, 128]⟩
abbrev S8x640x128 : Shape := ⟨3, ![8, 640, 128]⟩
abbrev S8x8x128 : Shape := ⟨3, ![8, 8, 128]⟩
abbrev S512x1024 : Shape := ⟨2, ![512, 1024]⟩
abbrev S512 : Shape := ⟨1, ![512]⟩
abbrev S512x1 : Shape := ⟨2, ![512, 1]⟩
abbrev S64x1024 : Shape := ⟨2, ![64, 1024]⟩
abbrev S128x1024 : Shape := ⟨2, ![128, 1024]⟩
abbrev S128x1 : Shape := ⟨2, ![128, 1]⟩
abbrev S8x128 : Shape := ⟨2, ![8, 128]⟩
abbrev S1x8x128 : Shape := ⟨3, ![1, 8, 128]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1024x512 : Shape := ⟨2, ![1024, 512]⟩
abbrev S512x512 : Shape := ⟨2, ![512, 512]⟩
abbrev S8x64x512 : Shape := ⟨3, ![8, 64, 512]⟩
abbrev S128x128 : Shape := ⟨2, ![128, 128]⟩
abbrev S1024x384 : Shape := ⟨2, ![1024, 384]⟩
abbrev S512x384 : Shape := ⟨2, ![512, 384]⟩
abbrev S512x2048 : Shape := ⟨2, ![512, 2048]⟩
abbrev S8x64x128 : Shape := ⟨3, ![8, 64, 128]⟩
abbrev S8x1x64x128 : Shape := ⟨4, ![8, 1, 64, 128]⟩
abbrev S1024x256 : Shape := ⟨2, ![1024, 256]⟩

abbrev nBuf : Space → Nat
  | .hbm => 100
  | .vmem => 46
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x4800, .f32⟩
  | .hbm, ⟨4, _⟩ => ⟨S4x1024, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S8x128x128, .f32⟩
  | .hbm, ⟨9, _⟩ => ⟨S1024, .f32⟩
  | .hbm, ⟨10, _⟩ => ⟨S1024, .f32⟩
  | .hbm, ⟨11, _⟩ => ⟨S384, .f32⟩
  | .hbm, ⟨12, _⟩ => ⟨S384x1536, .f32⟩
  | .hbm, ⟨13, _⟩ => ⟨S256, .f32⟩
  | .hbm, ⟨14, _⟩ => ⟨S256x2048, .f32⟩
  | .hbm, ⟨15, _⟩ => ⟨S8x4096, .f32⟩
  | .hbm, ⟨16, _⟩ => ⟨S8x64x64, .f32⟩
  | .hbm, ⟨17, _⟩ => ⟨S64x8x64, .f32⟩
  | .hbm, ⟨18, _⟩ => ⟨S64x4x128, .f32⟩
  | .hbm, ⟨19, _⟩ => ⟨S64x128x4, .f32⟩
  | .hbm, ⟨20, _⟩ => ⟨S64x128x4x32, .f32⟩
  | .hbm, ⟨21, _⟩ => ⟨S64x128x128, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S1x32, .f32⟩
  | .hbm, ⟨37, _⟩ => ⟨S4x32, .f32⟩
  | .hbm, ⟨38, _⟩ => ⟨S128, .f32⟩
  | .hbm, ⟨39, _⟩ => ⟨S1x128, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S64, .f32⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S1x128, .f32⟩
  | .hbm, ⟨50, _⟩ => ⟨S1024x64, .f32⟩
  | .hbm, ⟨51, _⟩ => ⟨S1024x2688, .f32⟩
  | .hbm, ⟨52, _⟩ => ⟨S1024x32, .f32⟩
  | .hbm, ⟨53, _⟩ => ⟨S1024x32, .f32⟩
  | .hbm, ⟨54, _⟩ => ⟨S1024x64, .f32⟩
  | .hbm, ⟨55, _⟩ => ⟨S1024x128, .f32⟩
  | .hbm, ⟨56, _⟩ => ⟨S1024x1024, .f32⟩
  | .hbm, ⟨57, _⟩ => ⟨S1024x1024, .f32⟩
  | .hbm, ⟨58, _⟩ => ⟨S1024x2688, .bf16⟩
  | .hbm, ⟨59, _⟩ => ⟨S1024x128, .bf16⟩
  | .hbm, ⟨60, _⟩ => ⟨S1024x1024, .bf16⟩
  | .hbm, ⟨61, _⟩ => ⟨S1024x1024, .bf16⟩
  | .hbm, ⟨62, _⟩ => ⟨S384x8x192, .f32⟩
  | .hbm, ⟨63, _⟩ => ⟨S384x8x64, .f32⟩
  | .hbm, ⟨64, _⟩ => ⟨S384x8x32, .f32⟩
  | .hbm, ⟨65, _⟩ => ⟨S384x8x32, .f32⟩
  | .hbm, ⟨66, _⟩ => ⟨S384x8x64, .f32⟩
  | .hbm, ⟨67, _⟩ => ⟨S384x8x256, .f32⟩
  | .hbm, ⟨68, _⟩ => ⟨S384x2048, .f32⟩
  | .hbm, ⟨69, _⟩ => ⟨S384x2048, .bf16⟩
  | .hbm, ⟨70, _⟩ => ⟨S8x128x256, .f32⟩
  | .hbm, ⟨71, _⟩ => ⟨S8x128x256, .bf16⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S4x1024, .f32⟩
  | .hbm, ⟨83, _⟩ => ⟨S4x1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1x1024, .f32⟩
  | .hbm, ⟨88, _⟩ => ⟨S1x1024, .f32⟩
  | .hbm, ⟨89, _⟩ => ⟨S1x384, .f32⟩
  | .hbm, ⟨90, _⟩ => ⟨S1x256, .f32⟩
  | .hbm, ⟨91, _⟩ => ⟨S256x2048, .bf16⟩
  | .hbm, ⟨92, _⟩ => ⟨S8x4096x1024, .bf16⟩
  | .hbm, ⟨93, _⟩ => ⟨S8x4096x1024, .bf16⟩
  | .hbm, ⟨94, _⟩ => ⟨S8x4096x1024, .bf16⟩
  | .hbm, ⟨95, _⟩ => ⟨S8x8x4096x256, .bf16⟩
  | .hbm, ⟨96, _⟩ => ⟨S8x8x4096x256, .bf16⟩
  | .hbm, ⟨97, _⟩ => ⟨S8x8x4096x128, .bf16⟩
  | .hbm, ⟨98, _⟩ => ⟨S8x32768x128, .bf16⟩
  | .hbm, ⟨99, _⟩ => ⟨S8x32768x128, .bf16⟩
  | .local _ .vmem, ⟨0, _⟩ => ⟨S8x64x1024, .f32⟩
  | .local _ .vmem, ⟨1, _⟩ => ⟨S8x64x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S1x128x128, .f32⟩
  | .local _ .vmem, ⟨7, _⟩ => ⟨S1x128x128, .f32⟩
  | .local _ .vmem, ⟨8, _⟩ => ⟨S1x1024, .f32⟩
  | .local _ .vmem, ⟨9, _⟩ => ⟨S1024x2688, .bf16⟩
  | .local _ .vmem, ⟨10, _⟩ => ⟨S1024x128, .bf16⟩
  | .local _ .vmem, ⟨11, _⟩ => ⟨S1024x1024, .bf16⟩
  | .local _ .vmem, ⟨12, _⟩ => ⟨S1024x1024, .bf16⟩
  | .local _ .vmem, ⟨13, _⟩ => ⟨S1x384, .f32⟩
  | .local _ .vmem, ⟨14, _⟩ => ⟨S384x2048, .bf16⟩
  | .local _ .vmem, ⟨15, _⟩ => ⟨S1x256, .f32⟩
  | .local _ .vmem, ⟨16, _⟩ => ⟨S256x2048, .bf16⟩
  | .local _ .vmem, ⟨17, _⟩ => ⟨S1x128, .f32⟩
  | .local _ .vmem, ⟨18, _⟩ => ⟨S1x128, .f32⟩
  | .local _ .vmem, ⟨19, _⟩ => ⟨S4x1024, .f32⟩
  | .local _ .vmem, ⟨20, _⟩ => ⟨S1x1024, .f32⟩
  | .local _ .vmem, ⟨21, _⟩ => ⟨S8x128x256, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S8x64x1024, .bf16⟩
  | .local _ .vmem, ⟨26, _⟩ => ⟨S8x64x1024, .bf16⟩
  | .local _ .vmem, ⟨27, _⟩ => ⟨S8x64x1024, .bf16⟩
  | .local _ .vmem, ⟨28, _⟩ => ⟨S8x64x1024, .bf16⟩
  | .local _ .vmem, ⟨29, _⟩ => ⟨S8x64x1024, .bf16⟩
  | .local _ .vmem, ⟨30, _⟩ => ⟨S8x64x1024, .bf16⟩
  | .local _ .vmem, ⟨31, _⟩ => ⟨S8x8x64x256, .bf16⟩
  | .local _ .vmem, ⟨32, _⟩ => ⟨S8x8x64x256, .bf16⟩
  | .local _ .vmem, ⟨33, _⟩ => ⟨S8x8x64x256, .bf16⟩
  | .local _ .vmem, ⟨34, _⟩ => ⟨S8x8x64x256, .bf16⟩
  | .local _ .vmem, ⟨35, _⟩ => ⟨S8x8x64x128, .bf16⟩
  | .local _ .vmem, ⟨36, _⟩ => ⟨S8x8x64x128, .bf16⟩
  | .local _ .vmem, ⟨37, _⟩ => ⟨S8x512x128, .bf16⟩
  | .local _ .vmem, ⟨38, _⟩ => ⟨S8x512x128, .bf16⟩
  | .local _ .vmem, ⟨39, _⟩ => ⟨S8x512x128, .bf16⟩
  | .local _ .vmem, ⟨40, _⟩ => ⟨S8x512x128, .bf16⟩
  | .local _ .vmem, ⟨41, _⟩ => ⟨S8x640x128, .f32⟩
  | .local _ .vmem, ⟨42, _⟩ => ⟨S8x512x128, .f32⟩
  | .local _ .vmem, ⟨43, _⟩ => ⟨S8x512x128, .f32⟩
  | .local _ .vmem, ⟨44, _⟩ => ⟨S8x8x128, .f32⟩
  | .local _ .vmem, ⟨45, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67_0 : Ref sig .tc := ⟨.hbm, 92, rfl⟩
abbrev main_v67_1 : Ref sig .tc := ⟨.hbm, 93, rfl⟩
abbrev main_v67_2 : Ref sig .tc := ⟨.hbm, 94, rfl⟩
abbrev main_v67_3 : Ref sig .tc := ⟨.hbm, 95, rfl⟩
abbrev main_v67_4 : Ref sig .tc := ⟨.hbm, 96, rfl⟩
abbrev main_v67_5 : Ref sig .tc := ⟨.hbm, 97, rfl⟩
abbrev main_v67_6 : Ref sig .tc := ⟨.hbm, 98, rfl⟩
abbrev main_v67_7 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1201 : BitVec 32 := 0#32
  let c64_i32_1202 : BitVec 32 := 64#32
  let v1932 : BitVec 32 := Scalar.addi c0_i32_1201 c64_i32_1202
  let c1_i32_1203 : BitVec 32 := 1#32
  ⟨c0_i32_1201, v1932, c1_i32_1203⟩
def k0_mult1 (k0_t1 : Fin k0_t1_loop.trips) : BitVec 32 :=
  let c0_i32_1201 : BitVec 32 := 0#32
  let c1_i32_1203 : BitVec 32 := 1#32
  let arg35 : BitVec 32 := Scf.iv c0_i32_1201 c1_i32_1203 k0_t1
  let c8_i32 : BitVec 32 := 8#32
  let v1940 : BitVec 32 := Scalar.muli arg35 c8_i32
  v1940
def k0_off1 (k0_t1 : Fin k0_t1_loop.trips) : Fin 3 → Nat :=
  let c0_1214 : Index := 0#32
  let c0_i32_1201 : BitVec 32 := 0#32
  let c1_i32_1203 : BitVec 32 := 1#32
  let arg35 : BitVec 32 := Scf.iv c0_i32_1201 c1_i32_1203 k0_t1
  let c8_i32 : BitVec 32 := 8#32
  let v1940 : BitVec 32 := Scalar.muli arg35 c8_i32
  let v1941 : BitVec 32 := v1940
  let v1942 : Index := Scalar.indexCast v1941
  let c0_1215 : Index := 0#32
  ![0, v1942.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_26 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2688 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8x64x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x64x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x64x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x8x64x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x8x64x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x8x64x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x512x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S8x512x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== InprojRefIdeal.lean ====
abbrev S8x4096x1024 : Shape := ⟨3, ![8, 4096, 1024]⟩
abbrev S8x4096 : Shape := ⟨2, ![8, 4096]⟩
abbrev S1024 : Shape := ⟨1, ![1024]⟩
abbrev S1024x4800 : Shape := ⟨2, ![1024, 4800]⟩
abbrev S4x1024 : Shape := ⟨2, ![4, 1024]⟩
abbrev S8x128x128 : Shape := ⟨3, ![8, 128, 128]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S8x4096x1 : Shape := ⟨3, ![8, 4096, 1]⟩
abbrev S1x1x1024 : Shape := ⟨3, ![1, 1, 1024]⟩
abbrev S8x4096x4800 : Shape := ⟨3, ![8, 4096, 4800]⟩
abbrev S8x4096x384 : Shape := ⟨3, ![8, 4096, 384]⟩
abbrev S8x4096x256 : Shape := ⟨3, ![8, 4096, 256]⟩
abbrev S8x4096x64 : Shape := ⟨3, ![8, 4096, 64]⟩
abbrev S1x1x256 : Shape := ⟨3, ![1, 1, 256]⟩
abbrev S8x4096x2048 : Shape := ⟨3, ![8, 4096, 2048]⟩
abbrev S8x4096x8x256 : Shape := ⟨4, ![8, 4096, 8, 256]⟩
abbrev S8x4096x8x128 : Shape := ⟨4, ![8, 4096, 8, 128]⟩
abbrev S8x8x4096x128 : Shape := ⟨4, ![8, 8, 4096, 128]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x4800, .f32⟩
  | .hbm, ⟨4, _⟩ => ⟨S4x1024, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S8x128x128, .f32⟩
  | .hbm, ⟨9, _⟩ => ⟨S1024, .f32⟩
  | .hbm, ⟨10, _⟩ => ⟨S1024, .f32⟩
  | .hbm, ⟨11, _⟩ => ⟨S384, .f32⟩
  | .hbm, ⟨12, _⟩ => ⟨S384x1536, .f32⟩
  | .hbm, ⟨13, _⟩ => ⟨S256, .f32⟩
  | .hbm, ⟨14, _⟩ => ⟨S256x2048, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x4800, .f32⟩
  | .hbm, ⟨32, _⟩ => ⟨S8x4096x1024, .f32⟩
  | .hbm, ⟨33, _⟩ => ⟨S8x4096x1024, .f32⟩
  | .hbm, ⟨34, _⟩ => ⟨S8x4096x384, .f32⟩
  | .hbm, ⟨35, _⟩ => ⟨S8x4096x256, .f32⟩
  | .hbm, ⟨36, _⟩ => ⟨S8x4096x64, .f32⟩
  | .hbm, ⟨37, _⟩ => ⟨S8x4096x1024, .f32⟩
  | .hbm, ⟨38, _⟩ => ⟨S8x4096x1024, .f32⟩
  | .hbm, ⟨39, _⟩ => ⟨S8x4096x256, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x256, .f32⟩
  | .hbm, ⟨51, _⟩ => ⟨S8x4096x256, .f32⟩
  | .hbm, ⟨52, _⟩ => ⟨S1x1x256, .f32⟩
  | .hbm, ⟨53, _⟩ => ⟨S8x4096x256, .f32⟩
  | .hbm, ⟨54, _⟩ => ⟨S8x4096x256, .f32⟩
  | .hbm, ⟨55, _⟩ => ⟨S8x4096x2048, .f32⟩
  | .hbm, ⟨56, _⟩ => ⟨S8x4096x8x256, .f32⟩
  | .hbm, ⟨57, _⟩ => ⟨S8x4096x8x128, .f32⟩
  | .hbm, ⟨58, _⟩ => ⟨S8x8x4096x128, .f32⟩
  | .hbm, ⟨59, _⟩ => ⟨S8x4096x1024, .bf16⟩
  | .hbm, ⟨60, _⟩ => ⟨S8x4096x1024, .bf16⟩
  | .hbm, ⟨61, _⟩ => ⟨S8x4096x1024, .bf16⟩
  | .hbm, ⟨62, _⟩ => ⟨S8x8x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Proof.IdealBody.lean ====
/- What one point of the attention's grid leaves in its output block and in the two scratch buffers it carries, as
   functions of the blocks it reads, and the body's two triples. -/
module

public import proofs.«01_k».proof.Proof.Gen.AttnIdeal.Frame
public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

/-- The lane numbers, as the body makes them. -/
abbrev lanes : IVec S1x256 32 := iota .tc S1x256 32 [1] iota_S1x256_d1_w32

/-- Rows 0 to 1023 of the queries' block. -/
abbrev rq0 : Rect S1x1x2048x256 := Rect.unit ![0, 0, 0, 0] S1x1x1024x256.size inb_S1x1x2048x256_S1x1x1024x256_0_0_0_0
/-- Rows 1024 to 2047 of the queries' block. -/
abbrev rq1 : Rect S1x1x2048x256 := Rect.unit ![0, 0, 1024, 0] S1x1x1024x256.size inb_S1x1x2048x256_S1x1x1024x256_0_0_1024_0
/-- Rows 0 to 1023 of the output block. -/
abbrev ro0 : Rect S1x2048x128 := Rect.unit ![0, 0, 0] S1x1024x128.size inb_S1x2048x128_S1x1024x128_0_0_0
/-- Rows 1024 to 2047 of the output block. -/
abbrev ro1 : Rect S1x2048x128 := Rect.unit ![0, 1024, 0] S1x1024x128.size inb_S1x2048x128_S1x1024x128_0_1024_0

/-- The first half of the queries' block. -/
def qa (x0 : Vec F S1x1x2048x256 .bf16) : Vec F S1x1x1024x256 .bf16 := View.ld x0 rq0
/-- The second half of the queries' block. -/
def qb (x0 : Vec F S1x1x2048x256 .bf16) : Vec F S1x1x1024x256 .bf16 := View.ld x0 rq1

/-- The first half of the output block, the exponentials taken of the scores below the bound. -/
def fast0 (x0 : Vec F S1x1x2048x256 .bf16) (x1 : Vec F S1x1x4096x256 .bf16) (vt : Vec F S128x4096 .bf16) (km : Vec F S1x256 .f32) :
    Vec F S1x1024x128 .bf16 :=
  k0_pay19 (k0_pay16 (qa x0) km x1) vt (k0_pay17 (qa x0) km x1)
/-- The second half of the output block, the exponentials taken of the scores below the bound. -/
def fast1 (x0 : Vec F S1x1x2048x256 .bf16) (x1 : Vec F S1x1x4096x256 .bf16) (vt : Vec F S128x4096 .bf16) (km : Vec F S1x256 .f32) :
    Vec F S1x1024x128 .bf16 :=
  k0_pay4 (k0_pay21 (qb x0)) (k0_pay22 (qb x0) km) (k0_pay23 lanes) x1 vt (k0_pay2 (k0_pay21 (qb x0)) (k0_pay22 (qb x0) km) (k0_pay23 lanes) x1)
/-- The first half of the output block, each row's largest score subtracted before the exponentials. -/
def slow0 (x0 : Vec F S1x1x2048x256 .bf16) (x1 : Vec F S1x1x4096x256 .bf16) (vt : Vec F S128x4096 .bf16) (km : Vec F S1x256 .f32) :
    Vec F S1x1024x128 .bf16 :=
  k0_pay12 (k0_pay11 lanes (qa x0) km x1) vt (k0_pay10 lanes (qa x0) km x1)
/-- The second half of the output block, each row's largest score subtracted before the exponentials. -/
def slow1 (x0 : Vec F S1x1x2048x256 .bf16) (x1 : Vec F S1x1x4096x256 .bf16) (vt : Vec F S128x4096 .bf16) (km : Vec F S1x256 .f32) :
    Vec F S1x1024x128 .bf16 :=
  k0_pay8 (k0_pay13 lanes (qb x0) km x1) vt (k0_pay7 (k0_pay13 lanes (qb x0) km x1))

/-- The condition under which the point does its rows again: not every denominator reached the floor. -/
def again (x0 : Vec F S1x1x2048x256 .bf16) (x1 : Vec F S1x1x4096x256 .bf16) (km : Vec F S1x256 .f32) : Prop :=
  Scalar.cmpi .ne (Scalar.extui (Scalar.xori (Scalar.cmpf .oge
    (k0_pay5 (k0_pay20 (k0_pay16 (qa x0) km x1)) (k0_pay21 (qb x0)) (k0_pay22 (qb x0) km) (k0_pay23 lanes) x1) (FloatOps.ofBits FTy.f32 0x1F800000#32)) 1#1)) 0#32 = 1#1

open Classical in
/-- What a point leaves in its output block. -/
def outBlk (x0 : Vec F S1x1x2048x256 .bf16) (x1 : Vec F S1x1x4096x256 .bf16) (vt : Vec F S128x4096 .bf16) (km : Vec F S1x256 .f32) :
    Vec F S1x2048x128 .bf16 :=
  if again x0 x1 km then View.canon [⟨ro1, slow1 x0 x1 vt km⟩, ⟨ro0, slow0 x0 x1 vt km⟩]
  else View.canon [⟨ro1, fast1 x0 x1 vt km⟩, ⟨ro0, fast0 x0 x1 vt km⟩]

/-- The condition under which a point transposes the values and bounds the keys. -/
abbrev first (i : grid0.Coords) : Prop :=
  (Scalar.cmpi .ne (Scalar.extui (Scalar.cmpi .eq (BitVec.ofNat 32 (i 2).val) 0#32)) 0#32) = 1#1

/-- Two stores into the halves of the output block cover it. -/
theorem halves_cover (w1 w0 : Vec F S1x1024x128 .bf16) (y : S1x2048x128.Idx) :
    ∃ pc ∈ ([⟨ro1, w1⟩, ⟨ro0, w0⟩] : List (View.Piece (Elt F) S1x2048x128 .bf16)), y ∈ pc.1.set :=
  View.cover_of_tiledL ([⟨ro1, w1⟩, ⟨ro0, w0⟩] : List (View.Piece (Elt F) S1x2048x128 .bf16)) S1x1024x128.size (by sl_kernel_rfl) y

/-- Under one of the two newest of a list's pieces, the older pieces do not count. -/
theorem canon_two {s : Shape} {e : EltTy} (p q : View.Piece (Elt F) s e) (L : List (View.Piece (Elt F) s e)) (y : s.Idx)
    (h : ∃ pc ∈ [p, q], y ∈ pc.1.set) : View.canon (p :: q :: L) y = View.canon [p, q] y := by
  by_cases hp : y ∈ p.1.set
  · obtain ⟨r, w⟩ := p
    obtain ⟨x, rfl⟩ : ∃ x, r.emb x = y := r.exists_idx_of_mem hp
    rw [View.canon_cons_emb, View.canon_cons_emb]
  · rw [View.canon_cons_of_not_mem _ _ hp, View.canon_cons_of_not_mem _ _ hp]
    have hq : y ∈ q.1.set := by
      obtain ⟨pc, hm, hy⟩ := h
      rcases List.mem_cons.mp hm with rfl | hm
      · exact absurd hy hp
      · rcases List.mem_cons.mp hm with rfl | hm
        · exact hy
        · exact absurd hm List.not_mem_nil
    obtain ⟨r, w⟩ := q
    obtain ⟨x, rfl⟩ : ∃ x, r.emb x = y := r.exists_idx_of_mem hq
    rw [View.canon_cons_emb, View.canon_cons_emb]

/-- What the two halves read back as, whatever was stored before them. -/
theorem read_halves {κ : Kind} {sp : Space} (v : View sig κ sp S1x2048x128 .bf16) (f : v.ty.Contents (Elt F))
    (w1 w0 : Vec F S1x1024x128 .bf16) (L : List (View.Piece (Elt F) S1x2048x128 .bf16)) :
    v.read (Elt F) (v.writes (Elt F) f (⟨ro1, w1⟩ :: ⟨ro0, w0⟩ :: L)) = View.canon [⟨ro1, w1⟩, ⟨ro0, w0⟩] := by
  funext y
  have h := halves_cover w1 w0 y
  refine (View.read_writes_apply_eq_canon v f y _ ?_).trans (canon_two _ _ L y h)
  obtain ⟨p, hp, hy⟩ := h
  exact ⟨p, List.mem_append_left L hp, hy⟩

/-- A load of a whole staged block is the block. -/
theorem load_whole {κ : Kind} {sp : Space} {s : Shape} {e : EltTy} {m : Memref sig κ sp s e} (h : m.IsWhole) (x : Vec F s e)
    {off : Fin s.rank → ℕ} (inb : ∀ a, off a + s.size a ≤ s.size a) :
    View.readAt (Elt F) m.view (Rect.unit off s.size inb).toLoadRect (h.unread x) = x :=
  (View.readAt_full _ _ inb).trans (h.read_unread x)

set_option maxHeartbeats 4000000 in
/-- A point that begins a head: from any scratch, it leaves the values transposed and the keys' bound in the scratch, and
    its output block computed with them. -/
theorem run_first (c : Dev nD) (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S1x1x4096x128 .bf16) (harg5 : arg5.IsWhole) (arg6 : Memref sig .tc .vmem S1x2048x128 .bf16) (harg6 : arg6.IsWhole) (arg7 : Memref sig .tc .vmem S2x4096x1024 .bf16) (harg7 : arg7.IsWhole) (arg8 : Memref sig .tc .vmem S128x4096 .bf16) (harg8 : arg8.IsWhole) (arg9 : Memref sig .tc .vmem S1x256 .f32) (harg9 : arg9.IsWhole) (hc : first i)
    (x0 : Vec F S1x1x2048x256 .bf16) (x1 : Vec F S1x1x4096x256 .bf16) (x2 : Vec F S1x1x4096x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outBlk x0 x1 (k0_pay14 x2) (k0_pay15 x1)) ∗ (∃ d, owns (c : Thread nD τ) arg7 fullShare d) ∗ owns (c : Thread nD τ) arg8 fullShare (k0_pay14 x2) ∗ owns (c : Thread nD τ) arg9 fullShare (k0_pay15 x1)) -∗ K ⟨⟩))
      ⊢ wp frame (wpE (defs₀ (F := F)) Variants.none c none) E (cc0_attn i arg3 harg3 arg4 harg4 arg5 harg5 arg6 harg6 arg7 harg7 arg8 harg8 arg9 harg9) K := by
  simp only [cc0_attn_eq_skeleton]; unfold cc0_attn_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have e11 : run_first.sl.v15 c arg4 harg4 arg9 x1 = k0_pay15 x1 := by
    unfold run_first.sl.v15 run_first.sl.HS2_1
    rw [View.readCov_full]; exact congrArg k0_pay15 (load_whole harg4 x1 _)
  have e33 : run_first.sl.v37 c arg5 harg5 arg8 x2 = k0_pay14 x2 := by
    unfold run_first.sl.v37 run_first.sl.HS1_1
    rw [View.readCov_full]; exact congrArg k0_pay14 (load_whole harg5 x2 _)
  have eqa : View.readAt (Elt F) arg3.view rq0.toLoadRect (harg3.unread x0) = qa x0 := by
    funext y; exact harg3.readAt_unread x0 _ y
  have eqb : View.readAt (Elt F) arg3.view rq1.toLoadRect (harg3.unread x0) = qb x0 := by
    funext y; exact harg3.readAt_unread x0 _ y
  have ek : View.readAt (Elt F) arg4.view (Rect.unit (s := S1x1x4096x256) ![0, 0, 0, 0] S1x1x4096x256.size inb_S1x1x4096x256_S1x1x4096x256_0_0_0_0).toLoadRect (harg4.unread x1) = x1 :=
    load_whole harg4 x1 _
  have e33' : run_first.sl.v85 c arg5 harg5 arg8 x2 = k0_pay14 x2 := e33
  have e75 : run_first.sl.v75 c arg4 harg4 x1 = x1 := ek
  have er : run_first.sl.r c arg3 harg3 arg4 harg4 arg9 x0 x1 = k0_pay16 (qa x0) (k0_pay15 x1) x1 := by
    unfold run_first.sl.r; rw [e11, eqa, ek]
  have er1 : run_first.sl.r_1 c arg3 harg3 arg4 harg4 arg9 x0 x1 = k0_pay20 (k0_pay16 (qa x0) (k0_pay15 x1) x1) := by
    unfold run_first.sl.r_1; rw [er]
  have er2 : run_first.sl.r_2 c arg3 harg3 x0 = k0_pay21 (qb x0) := by
    unfold run_first.sl.r_2; rw [eqb]
  have er3 : run_first.sl.r_3 c arg3 harg3 arg4 harg4 arg9 x0 x1 = k0_pay22 (qb x0) (k0_pay15 x1) := by
    unfold run_first.sl.r_3; rw [e11, eqb]
  have er4 : run_first.sl.r_4 c arg3 harg3 arg4 harg4 arg9 x0 x1 = k0_pay11 lanes (qa x0) (k0_pay15 x1) x1 := by
    unfold run_first.sl.r_4; rw [e11, eqa, ek]; rfl
  have er5 : run_first.sl.r_5 c arg3 harg3 arg4 harg4 arg9 x0 x1 = k0_pay13 lanes (qb x0) (k0_pay15 x1) x1 := by
    unfold run_first.sl.r_5; rw [e11, eqb, ek]; rfl
  have e38 : run_first.sl.v38 c arg3 harg3 arg4 harg4 arg7 arg9 x0 x1 = k0_pay17 (qa x0) (k0_pay15 x1) x1 := by
    unfold run_first.sl.v38 run_first.sl.HS0_1
    rw [View.readCov_cons_toLoadRect, e11, eqa, ek]
  have e86 : run_first.sl.v86 c arg3 harg3 arg4 harg4 arg7 arg9 x0 x1 = k0_pay2 (k0_pay21 (qb x0)) (k0_pay22 (qb x0) (k0_pay15 x1)) (k0_pay23 lanes) x1 := by
    unfold run_first.sl.v86 run_first.sl.HS0_2
    rw [View.readCov_cons_toLoadRect, er2, er3, e75]; rfl
  have e143 : run_first.sl.v143 c arg3 harg3 arg4 harg4 arg7 arg9 x0 x1 = k0_pay10 lanes (qa x0) (k0_pay15 x1) x1 := by
    unfold run_first.sl.v143 run_first.sl.HS0_3
    rw [View.readCov_cons_toLoadRect, e11, eqa, ek]; rfl
  have e191 : run_first.sl.v191 c arg3 harg3 arg4 harg4 arg7 arg9 x0 x1 = k0_pay7 (k0_pay13 lanes (qb x0) (k0_pay15 x1) x1) := by
    unfold run_first.sl.v191 run_first.sl.HS0_4
    rw [View.readCov_cons_toLoadRect, er5]
  isplitl [H3]
  · iexists _; isplitr
    swap; · iexact H3
    ipureintro
    rw [er1, er2, er3, er4, er5, e75, e33, e33', e143, e191]
    unfold run_first.sl.H3_2
    rw [show run_first.sl.v0 = lanes from rfl, e33, e33', er, er2, er3, e38, e75, e86]
    unfold outBlk
    by_cases h : again x0 x1 (k0_pay15 x1)
    · rw [dif_pos (show _ = _ from h), if_pos h]
      exact read_halves _ _ _ _ _
    · rw [dif_neg (show ¬ _ = _ from h), if_neg h]
      exact read_halves _ _ _ _ []
  isplitl [HS0]
  · iexists _; iexists _; isplitr
    swap; · iexact HS0
    ipureintro; rfl
  isplitl [HS1]
  · iexists _; isplitr
    swap; · iexact HS1
    ipureintro; unfold run_first.sl.HS1_1; rw [View.read_writes_full]; exact congrArg k0_pay14 (load_whole harg5 x2 _)
  iexists _; isplitr
  swap; · iexact HS2
  ipureintro; unfold run_first.sl.HS2_1; rw [View.read_writes_full]; exact congrArg k0_pay15 (load_whole harg4 x1 _)

set_option maxHeartbeats 4000000 in
/-- A point inside a head: it keeps the scratch that the head's first point left, and computes its output block with it. -/
theorem run_later (c : Dev nD) (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S1x1x4096x128 .bf16) (harg5 : arg5.IsWhole) (arg6 : Memref sig .tc .vmem S1x2048x128 .bf16) (harg6 : arg6.IsWhole) (arg7 : Memref sig .tc .vmem S2x4096x1024 .bf16) (harg7 : arg7.IsWhole) (arg8 : Memref sig .tc .vmem S128x4096 .bf16) (harg8 : arg8.IsWhole) (arg9 : Memref sig .tc .vmem S1x256 .f32) (harg9 : arg9.IsWhole) (hc : ¬first i)
    (x0 : Vec F S1x1x2048x256 .bf16) (x1 : Vec F S1x1x4096x256 .bf16) (x2 : Vec F S1x1x4096x128 .bf16) (vt : Vec F S128x4096 .bf16) (km : Vec F S1x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare vt ∗ owns (c : Thread nD τ) arg9 fullShare km
        ∗ (iprop(owns (c : Thread nD τ) arg3 fullShare x0 ∗ owns (c : Thread nD τ) arg4 fullShare x1 ∗ owns (c : Thread nD τ) arg5 fullShare x2 ∗ owns (c : Thread nD τ) arg6 fullShare (outBlk x0 x1 vt km) ∗ (∃ d, owns (c : Thread nD τ) arg7 fullShare d) ∗ owns (c : Thread nD τ) arg8 fullShare vt ∗ owns (c : Thread nD τ) arg9 fullShare km) -∗ K ⟨⟩))
      ⊢ wp frame (wpE (defs₀ (F := F)) Variants.none c none) E (cc0_attn i arg3 harg3 arg4 harg4 arg5 harg5 arg6 harg6 arg7 harg7 arg8 harg8 arg9 harg9) K := by
  simp only [cc0_attn_eq_skeleton]; unfold cc0_attn_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg8.eq_unread hfs1; obtain rfl := harg9.eq_unread hfs2
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have eqa : View.readAt (Elt F) arg3.view rq0.toLoadRect (harg3.unread x0) = qa x0 := by
    funext y; exact harg3.readAt_unread x0 _ y
  have eqb : View.readAt (Elt F) arg3.view rq1.toLoadRect (harg3.unread x0) = qb x0 := by
    funext y; exact harg3.readAt_unread x0 _ y
  have ek : View.readAt (Elt F) arg4.view (Rect.unit (s := S1x1x4096x256) ![0, 0, 0, 0] S1x1x4096x256.size inb_S1x1x4096x256_S1x1x4096x256_0_0_0_0).toLoadRect (harg4.unread x1) = x1 :=
    load_whole harg4 x1 _
  have ev : View.readAt (Elt F) arg8.view (Rect.unit (s := S128x4096) ![0, 0] S128x4096.size inb_S128x4096_S128x4096_0_0).toLoadRect (harg8.unread vt) = vt :=
    load_whole harg8 vt _
  have ev' : View.readAt (Elt F) arg8.view (Rect.unit (s := S128x4096) ![0, 0] ![128, 4096] inb_S128x4096_S128x4096_0_0).toLoadRect (harg8.unread vt) = vt := ev
  have em : View.readAt (Elt F) arg9.view (Rect.unit (s := S1x256) ![0, 0] S1x256.size inb_S1x256_S1x256_0_0).toLoadRect (harg9.unread km) = km :=
    load_whole harg9 km _
  have e75 : run_later.sl.v75 c arg4 harg4 x1 = x1 := ek
  have er : run_later.sl.r c arg3 harg3 arg4 harg4 arg9 harg9 x0 x1 km = k0_pay16 (qa x0) km x1 := by
    unfold run_later.sl.r; rw [em, eqa, ek]
  have er1 : run_later.sl.r_1 c arg3 harg3 arg4 harg4 arg9 harg9 x0 x1 km = k0_pay20 (k0_pay16 (qa x0) km x1) := by
    unfold run_later.sl.r_1; rw [er]
  have er2 : run_later.sl.r_2 c arg3 harg3 x0 = k0_pay21 (qb x0) := by
    unfold run_later.sl.r_2; rw [eqb]
  have er3 : run_later.sl.r_3 c arg3 harg3 arg9 harg9 x0 km = k0_pay22 (qb x0) km := by
    unfold run_later.sl.r_3; rw [em, eqb]
  have er4 : run_later.sl.r_4 c arg3 harg3 arg4 harg4 arg9 harg9 x0 x1 km = k0_pay11 lanes (qa x0) km x1 := by
    unfold run_later.sl.r_4; rw [em, eqa, ek]; rfl
  have er5 : run_later.sl.r_5 c arg3 harg3 arg4 harg4 arg9 harg9 x0 x1 km = k0_pay13 lanes (qb x0) km x1 := by
    unfold run_later.sl.r_5; rw [em, eqb, ek]; rfl
  have e38 : run_later.sl.v38 c arg3 harg3 arg4 harg4 arg7 arg9 harg9 x0 x1 km = k0_pay17 (qa x0) km x1 := by
    unfold run_later.sl.v38 run_later.sl.HS0_1
    rw [View.readCov_cons_toLoadRect, em, eqa, ek]
  have e86 : run_later.sl.v86 c arg3 harg3 arg4 harg4 arg7 arg9 harg9 x0 x1 km = k0_pay2 (k0_pay21 (qb x0)) (k0_pay22 (qb x0) km) (k0_pay23 lanes) x1 := by
    unfold run_later.sl.v86 run_later.sl.HS0_2
    rw [View.readCov_cons_toLoadRect, er2, er3, e75]; rfl
  have e143 : run_later.sl.v143 c arg3 harg3 arg4 harg4 arg7 arg9 harg9 x0 x1 km = k0_pay10 lanes (qa x0) km x1 := by
    unfold run_later.sl.v143 run_later.sl.HS0_3
    rw [View.readCov_cons_toLoadRect, em, eqa, ek]; rfl
  have e191 : run_later.sl.v191 c arg3 harg3 arg4 harg4 arg7 arg9 harg9 x0 x1 km = k0_pay7 (k0_pay13 lanes (qb x0) km x1) := by
    unfold run_later.sl.v191 run_later.sl.HS0_4
    rw [View.readCov_cons_toLoadRect, er5]
  isplitl [H3]
  · iexists _; isplitr
    swap; · iexact H3
    ipureintro
    rw [er1, er2, er3, er4, er5, e75, ev, e143, e191]
    unfold run_later.sl.H3_2
    rw [show run_later.sl.v0 = lanes from rfl, ev, er, er2, er3, e38, e75, e86]
    unfold outBlk
    by_cases h : again x0 x1 km
    · rw [dif_pos (show _ = _ from h), if_pos h]
      exact read_halves _ _ _ _ _
    · rw [dif_neg (show ¬ _ = _ from h), if_neg h]
      exact read_halves _ _ _ _ []
  isplitl [HS0]
  · iexists _; iexists _; isplitr
    swap; · iexact HS0
    ipureintro; rfl
  isplitl [HS1]
  · iexists _; isplitr
    swap; · iexact HS1
    ipureintro; exact hfs1
  iexists _; isplitr
  swap; · iexact HS2
  ipureintro; exact hfs2

end Cert.AttnIdeal.Body

end
-- ==== Proof.IdealRun.lean ====
/- The attention's grid point by point: what the output window and the carried scratch hold after each point, the body's
   obligation at every point, the run, and the frame. -/
module

public import proofs.«01_k».proof.Proof.IdealBody
public import Idealize.ShloMosaic.Lib.Claim

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point begins a head exactly when its number is even. -/
theorem first_iff (t : Fin cfg0.N) : first (grid0.coords t) ↔ t.val % 2 = 0 := by
  have ht : t.val < 128 := Nat.lt_of_lt_of_eq t.isLt N_0
  have e2 : (grid0.coords t 2).val = t.val / 1 % 2 := Pipeline.Grid.coords_val t 2 (by decide) rfl
  simp only [first, e2]
  word_cmp

/-- The point that begins the head of point `n`. -/
def ev (n : ℕ) (h : n < cfg0.N) : Fin cfg0.N := ⟨n - n % 2, Nat.lt_of_le_of_lt (Nat.sub_le _ _) h⟩

/-- The values of a head, transposed, as its points keep them. -/
def vtAt (c : Dev nD) (n : ℕ) (h : n < cfg0.N) : Vec F S128x4096 .bf16 := k0_pay14 (iblk m c 2 (ev n h))
/-- The bound on a head's keys, as its points keep it. -/
def kmAt (c : Dev nD) (n : ℕ) (h : n < cfg0.N) : Vec F S1x256 .f32 := k0_pay15 (iblk m c 1 (ev n h))

/-- The scratch before point `n`: any before the first; then the head's values and bound as the point before left them,
    the exponentials' buffer at anything. -/
def carried (c : Dev nD) : (n : ℕ) → n ≤ cfg0.N → sProp 𝕄
  | 0, _ => Pipeline.ΦA spec0 c
  | n + 1, hn => iprop(iprop((∃ d, owns (c : Thread nD τ) (Memref.whole cc0_scratch0 : Memref sig .tc .vmem S2x4096x1024 .bf16) fullShare d) ∗ owns (c : Thread nD τ) (Memref.whole cc0_scratch1 : Memref sig .tc .vmem S128x4096 .bf16) fullShare (vtAt m c n hn) ∗ owns (c : Thread nD τ) (Memref.whole cc0_scratch2 : Memref sig .tc .vmem S1x256 .f32) fullShare (kmAt m c n hn)) ∗ (∃ r, prngReg c r))

theorem carried_pos (c : Dev nD) (n : ℕ) (h : n ≤ cfg0.N) (hz : n ≠ 0) :
    carried m c n h = iprop(iprop((∃ d, owns (c : Thread nD τ) (Memref.whole cc0_scratch0 : Memref sig .tc .vmem S2x4096x1024 .bf16) fullShare d) ∗ owns (c : Thread nD τ) (Memref.whole cc0_scratch1 : Memref sig .tc .vmem S128x4096 .bf16) fullShare (vtAt m c (n - 1) (by omega)) ∗ owns (c : Thread nD τ) (Memref.whole cc0_scratch2 : Memref sig .tc .vmem S1x256 .f32) fullShare (kmAt m c (n - 1) (by omega))) ∗ (∃ r, prngReg c r)) := by
  cases n with
  | zero => exact absurd rfl hz
  | succ n => rfl

theorem carried_succ (c : Dev nD) (n : ℕ) (h : n + 1 ≤ cfg0.N) :
    carried m c (n + 1) h = iprop(iprop((∃ d, owns (c : Thread nD τ) (Memref.whole cc0_scratch0 : Memref sig .tc .vmem S2x4096x1024 .bf16) fullShare d) ∗ owns (c : Thread nD τ) (Memref.whole cc0_scratch1 : Memref sig .tc .vmem S128x4096 .bf16) fullShare (vtAt m c n h) ∗ owns (c : Thread nD τ) (Memref.whole cc0_scratch2 : Memref sig .tc .vmem S1x256 .f32) fullShare (kmAt m c n h)) ∗ (∃ r, prngReg c r)) := rfl

/-- At the point that begins a head, the kept values and bound are of that point's own blocks. -/
theorem kept_even (c : Dev nD) (n : ℕ) (h : n < cfg0.N) (h0 : n % 2 = 0) :
    vtAt m c n h = k0_pay14 (iblk m c 2 ⟨n, h⟩) ∧ kmAt m c n h = k0_pay15 (iblk m c 1 ⟨n, h⟩) := by
  have hev : ev n h = ⟨n, h⟩ := Fin.ext (by show n - n % 2 = n; omega)
  unfold vtAt kmAt; rw [hev]; exact ⟨rfl, rfl⟩

/-- At a head's other points they are those the point before kept. -/
theorem kept_odd (c : Dev nD) (n : ℕ) (h : n < cfg0.N) (h' : n - 1 < cfg0.N) (h0 : ¬n % 2 = 0) :
    vtAt m c (n - 1) h' = vtAt m c n h ∧ kmAt m c (n - 1) h' = kmAt m c n h := by
  have hev : ev (n - 1) h' = ev n h := Fin.ext (by show n - 1 - (n - 1) % 2 = n - n % 2; omega)
  unfold vtAt kmAt; rw [hev]; exact ⟨rfl, rfl⟩

/-- The launch's scratch, buffer by buffer. -/
theorem scratch_eq (c : Dev nD) :
    (Pipeline.ΦA spec0 c : sProp 𝕄)
      = iprop(iprop((∃ d, owns (c : Thread nD τ) (Memref.whole cc0_scratch0 : Memref sig .tc .vmem S2x4096x1024 .bf16) fullShare d) ∗ (∃ d, owns (c : Thread nD τ) (Memref.whole cc0_scratch1 : Memref sig .tc .vmem S128x4096 .bf16) fullShare d) ∗ (∃ d, owns (c : Thread nD τ) (Memref.whole cc0_scratch2 : Memref sig .tc .vmem S1x256 .f32) fullShare d)) ∗ (∃ r, prngReg c r)) := by
  unfold Pipeline.ΦA; rw [scopedRest0_eq]; simp only [owns_whole]; try rfl

theorem carried_zero (c : Dev nD) (n : ℕ) (h : n ≤ cfg0.N) (hz : n = 0) :
    carried m c n h = iprop(iprop((∃ d, owns (c : Thread nD τ) (Memref.whole cc0_scratch0 : Memref sig .tc .vmem S2x4096x1024 .bf16) fullShare d) ∗ (∃ d, owns (c : Thread nD τ) (Memref.whole cc0_scratch1 : Memref sig .tc .vmem S128x4096 .bf16) fullShare d) ∗ (∃ d, owns (c : Thread nD τ) (Memref.whole cc0_scratch2 : Memref sig .tc .vmem S1x256 .f32) fullShare d)) ∗ (∃ r, prngReg c r)) := by
  subst hz; exact scratch_eq c

/-- What each window's buffer holds after each point, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (vtAt m c t.val t.isLt) (kmAt m c t.val t.isLt)
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
/-- What the output window holds after point `t`. -/
theorem after0_3 (c : Dev nD) (t : Fin cfg0.N) : (dats m 0 c).after 3 t
    = outBlk (iblk m c 0 t) (iblk m c 1 t) (vtAt m c t.val t.isLt) (kmAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch before an even point can be anything. -/
theorem forget (c : Dev nD) (n : ℕ) (h : n ≤ cfg0.N) : carried m c n h ⊢ Pipeline.ΦA spec0 c := by
  by_cases hz : n = 0
  · subst hz; exact Idealize.SL.BI.Entails.refl _
  · rw [carried_pos m c n h hz, scratch_eq]
    iintro ⟨⟨HS0, HS1, HS2⟩, Hg⟩
    isplitl [HS0 HS1 HS2]
    · isplitl [HS0]
      · iexact HS0
      isplitl [HS1]
      · iexists _; iexact HS1
      iexists _; iexact HS2
    iexact Hg

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = carried m c (t.val + 1) t.isLt from rfl,
    show (dats m 0 c).Φ t.castSucc = carried m c t.val (Nat.le_of_lt t.isLt) from rfl]
  rw [carried_succ]
  by_cases h0 : t.val % 2 = 0
  · rw [(kept_even m c t.val t.isLt h0).1, (kept_even m c t.val t.isLt h0).2]
    by_cases hz : t.val = 0
    · rw [carried_zero m c t.val _ hz]
      iintro ⟨⟨⟨HS0, HS1, HS2⟩, Hg⟩, Ho, ⟨%d0, H0⟩, ⟨%d1, H1⟩, ⟨%d2, H2⟩, ⟨%d3, H3⟩⟩
      iapply (run_first c (grid0.coords t) _ _ _ _ _ _ _ _ _ _ _ _ _ _ ((first_iff t).mpr h0) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [carried_pos m c t.val _ hz]
      iintro ⟨⟨⟨HS0, HS1, HS2⟩, Hg⟩, Ho, ⟨%d0, H0⟩, ⟨%d1, H1⟩, ⟨%d2, H2⟩, ⟨%d3, H3⟩⟩
      iapply (run_first c (grid0.coords t) _ _ _ _ _ _ _ _ _ _ _ _ _ _ ((first_iff t).mpr h0) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexists _; iexact HS1
      isplitl [HS2]; · iexists _; iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
  · have hz : t.val ≠ 0 := fun h => h0 (by rw [h])
    rw [carried_pos m c t.val (Nat.le_of_lt t.isLt) hz, (kept_odd m c t.val t.isLt _ h0).1, (kept_odd m c t.val t.isLt _ h0).2]
    iintro ⟨⟨⟨HS0, HS1, HS2⟩, Hg⟩, Ho, ⟨%d0, H0⟩, ⟨%d1, H1⟩, ⟨%d2, H2⟩, ⟨%d3, H3⟩⟩
    iapply (run_later c (grid0.coords t) _ _ _ _ _ _ _ _ _ _ _ _ _ _ (fun h => h0 ((first_iff t).mp h)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3

/-- The pipeline calls the body as `bodyAt0` writes it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the pipeline's arrays at what the points left, everything else as the region found it, and every
    semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun c => forget m c (Fin.last cfg0.N).val (Nat.le_of_lt_succ (Fin.last cfg0.N).isLt))

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, the arguments unchanged, the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (Gen.frame_of m ρ (dats m) (A_eq m) (run_main m ρ)) ((θ_run defs _ _).mono (fun _ h => h.2) (run_quiescent m ρ))

end Cert.AttnIdeal.Body

end
-- ==== Proof.Softmax.lean ====
/- One row of attention over the extended reals: the weights `exp (s j) / Σ exp (s i)` of real scores `s`, applied to
   values that may be anything, and the two ways the programs spell it. -/
module

public import Idealize.ShloMosaic.Lib.Pointwise

@[expose] public section

set_option maxRecDepth 16384

noncomputable section

namespace Cert.Soft

open Idealize.ShloMosaic

/-- A sum of reals, read among the extended reals, is the sum of them read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying by a real that is not negative goes through a sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The largest of finitely many reals, the fold started at `⊥`, is a real. -/
theorem fold_max_coe {ι : Type} (s : Finset ι) (hs : s.Nonempty) (f : ι → ℝ) :
    ∃ M : ℝ, s.fold max (⊥ : EReal) (fun i => (f i : EReal)) = (M : EReal) ∧ ∀ i ∈ s, f i ≤ M := by
  classical
  induction hs using Finset.Nonempty.cons_induction with
  | singleton a => exact ⟨f a, by simp, by simp⟩
  | cons a s ha hs ih =>
    obtain ⟨M, hM, hle⟩ := ih
    refine ⟨max (f a) M, ?_, fun i hi => ?_⟩
    swap
    · rcases Finset.mem_cons.mp hi with rfl | hi
      · exact le_max_left _ _
      · exact (hle i hi).trans (le_max_right _ _)
    rw [Finset.fold_cons, hM]
    rcases le_total (f a) M with h | h
    · rw [max_eq_right h, max_eq_right (by exact_mod_cast h)]
    · rw [max_eq_left h, max_eq_left (by exact_mod_cast h)]

/-- The values `v` weighted by the softmax of the scores `s`. -/
def soft {n : ℕ} (s : Fin n → ℝ) (v : Fin n → EReal) : EReal :=
  ∑ j, v j * ((Real.exp (s j) / ∑ i, Real.exp (s i) : ℝ) : EReal)

theorem exp_sum_pos {n : ℕ} [NeZero n] (s : Fin n → ℝ) : 0 < ∑ i, Real.exp (s i) :=
  Finset.sum_pos (fun i _ => Real.exp_pos _) ⟨0, Finset.mem_univ _⟩

/-- Weights proportional to `exp (s j)`, the division done after the sum. -/
theorem soft_after {n : ℕ} [NeZero n] (s : Fin n → ℝ) (v : Fin n → EReal) (p : Fin n → ℝ) (c : ℝ) (hc : 0 < c)
    (hp : ∀ j, p j = c * Real.exp (s j)) :
    Ideal.div (∑ j, v j * (p j : EReal)) (∑ j, (p j : EReal)) = soft s v := by
  have hE := exp_sum_pos s
  have hP : ∑ j, p j = c * ∑ i, Real.exp (s i) := by
    rw [Finset.mul_sum]; exact Finset.sum_congr rfl fun j _ => hp j
  have hP0 : 0 < ∑ j, p j := by rw [hP]; exact mul_pos hc hE
  rw [← coe_sum, Ideal.div_coe hP0.ne', sum_mul_coe _ _ _ (by positivity)]
  unfold soft
  refine Finset.sum_congr rfl fun j _ => ?_
  rw [mul_assoc, ← EReal.coe_mul]
  congr 2
  rw [hP, hp j]
  field_simp

/-- Weights proportional to `exp (s j)`, the division done before the sum. -/
theorem soft_before {n : ℕ} [NeZero n] (s : Fin n → ℝ) (v : Fin n → EReal) (p : Fin n → ℝ) (c : ℝ) (hc : 0 < c)
    (hp : ∀ j, p j = c * Real.exp (s j)) :
    ∑ j, v j * Ideal.div (p j : EReal) (∑ i, (p i : EReal)) = soft s v := by
  have hE := exp_sum_pos s
  have hP : ∑ j, p j = c * ∑ i, Real.exp (s i) := by
    rw [Finset.mul_sum]; exact Finset.sum_congr rfl fun j _ => hp j
  have hP0 : 0 < ∑ j, p j := by rw [hP]; exact mul_pos hc hE
  unfold soft
  refine Finset.sum_congr rfl fun j _ => ?_
  rw [← coe_sum, Ideal.div_coe hP0.ne', ← EReal.coe_mul]
  congr 2
  rw [hP, hp j]
  field_simp

/-- A power of two of a score in units of `log 2`, lowered by `b`, is the exponential of the score times a constant. -/
theorem rpow_two (s b : ℝ) : Real.rpow 2 (s * (Real.log 2)⁻¹ - b) = Real.exp (-(b * Real.log 2)) * Real.exp s := by
  have h2 : Real.log 2 ≠ 0 := (Real.log_pos (by norm_num)).ne'
  show (2 : ℝ) ^ (s * (Real.log 2)⁻¹ - b) = _
  rw [Real.rpow_def_of_pos (by norm_num), ← Real.exp_add]
  congr 1
  field_simp
  ring

/-- Two halves of a 256-lane product whose lanes from 193 on are zero and whose lane 192 is replaced on one side. -/
theorem dot_lanes (K Q : Fin 256 → ℝ) (b κ : ℝ) (hK : K 192 = 1) (hQ : Q 192 = 0) :
    ∑ d : Fin 256, K d * (if d = 192 then -b else Q d * κ) = (∑ d, K d * Q d) * κ - b := by
  have : ∀ d : Fin 256, K d * (if d = 192 then -b else Q d * κ) = K d * Q d * κ + (if d = 192 then -b else 0) := by
    intro d
    by_cases h : d = 192
    · subst h; simp [hK, hQ]
    · simp [h]; ring
  rw [Finset.sum_congr rfl fun d _ => this d, Finset.sum_add_distrib, Finset.sum_ite_eq' Finset.univ (192 : Fin 256) (fun _ => -b), ← Finset.sum_mul]
  simp [sub_eq_add_neg]

/-- A 256-lane product whose left lanes from 192 on do not count, because the right ones are zero there. -/
theorem dot_pad (K Q : Fin 256 → ℝ) (hQ : ∀ d : Fin 256, 192 ≤ d.val → Q d = 0) :
    ∑ d, K d * Q d = ∑ d : Fin 192, K ⟨d.val, by omega⟩ * Q ⟨d.val, by omega⟩ := by
  rw [show (∑ d : Fin 256, K d * Q d) = ∑ d : Fin (192 + 64), K ⟨d.val, d.isLt⟩ * Q ⟨d.val, d.isLt⟩ from rfl, Fin.sum_univ_add]
  rw [Finset.sum_eq_zero (s := Finset.univ) (f := fun d : Fin 64 => K ⟨(Fin.natAdd 192 d).val, _⟩ * Q ⟨(Fin.natAdd 192 d).val, _⟩), add_zero]
  · rfl
  · intro d _
    rw [hQ _ (by simp), mul_zero]

/-- A one-lane test of the lane number against 192. -/
theorem select_lane {α : Type} (d : Fin 256) (a b : α) :
    Scalar.select (IntOp.cmpi .eq (BitVec.ofNat 32 d.val) 192#32) a b = if d = 192 then a else b := by
  have : IntOp.cmpi .eq (BitVec.ofNat 32 d.val) 192#32 = if d = 192 then 1#1 else 0#1 := by
    revert d; decide +kernel
  rw [this]
  split <;> rfl

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

theorem ofBits_192 : Ideal.ofBits .f32 0x43400000#32 = ((192 : ℝ) : EReal) := by
  simp [Ideal.ofBits, Ideal.ieee, -EReal.coe_mul]; norm_num

end Cert.Soft

end
-- ==== Proof.IdealValue.lean ====
/- What a point of the attention's grid leaves in its output block, over the extended reals: every row is the row's
   attention, in the first pass and in the second alike. -/
module

public import proofs.«01_k».proof.Proof.IdealRun
public import proofs.«01_k».proof.Proof.Softmax
public import Idealize.ShloMosaic.Lib.Pointwise
public import Idealize.ShloMosaic.Lib.Pipeline.ValueKit

@[expose] public section

set_option maxRecDepth 16384
set_option maxHeartbeats 1600000

noncomputable section

namespace Cert.AttnIdeal.Body

open Idealize.ShloMosaic Idealize.ShloMosaic.Pointwise
open Cert.AttnIdeal.Gen Cert.Soft

/-- The softmax scale, and the factor the kernel multiplies the queries by. -/
abbrev α : ℝ := (Real.sqrt 192)⁻¹
abbrev qs : ℝ := (Real.sqrt 192)⁻¹ * (Real.log 2)⁻¹

theorem named_qs : Named.named (F := Ideal) (φ := .f32) κ "q_scale" 0x3DD53B95#32 = ((qs : ℝ) : EReal) :=
  IdealRules.named_const.ideal_named_scalar _ _ _ _ rfl

theorem exp2_real (r : ℝ) : FloatOps.exp2 (F := Ideal) (φ := .f32) ((r : ℝ) : EReal) = ((Real.rpow 2 r : ℝ) : EReal) := rfl

/-- The bound a row's scores are lowered by. -/
def bnd (Q : Fin 256 → ℝ) (k : ℝ) : ℝ := Real.sqrt (∑ d, Q d * qs * (Q d * qs)) * k

/-- A row's score against one key, as the body computes it. -/
def score (K Q : Fin 256 → ℝ) : ℝ := (∑ d, K d * Q d) * α

/-- The exponent the body takes the power of two of. -/
theorem score_eq (K Q : Fin 256 → ℝ) (k : ℝ) (hK : K 192 = 1) (hQ : Q 192 = 0) :
    ∑ d : Fin 256, (K d : EReal) * Scalar.select (IntOp.cmpi .eq (BitVec.ofNat 32 d.val) 192#32)
        (0 - Ideal.sqrt (∑ e : Fin 256, (Q e : EReal) * Named.named (F := Ideal) (φ := .f32) κ "q_scale" 0x3DD53B95#32 * ((Q e : EReal) * Named.named (F := Ideal) (φ := .f32) κ "q_scale" 0x3DD53B95#32)) * (k : EReal))
        ((Q d : EReal) * Named.named (F := Ideal) (φ := .f32) κ "q_scale" 0x3DD53B95#32)
      = ((score K Q * (Real.log 2)⁻¹ - bnd Q k : ℝ) : EReal) := by
  have hn : Ideal.sqrt (∑ e : Fin 256, (Q e : EReal) * Named.named (F := Ideal) (φ := .f32) κ "q_scale" 0x3DD53B95#32 * ((Q e : EReal) * Named.named (F := Ideal) (φ := .f32) κ "q_scale" 0x3DD53B95#32))
      = ((Real.sqrt (∑ d, Q d * qs * (Q d * qs)) : ℝ) : EReal) := by
    simp only [named_qs, ← EReal.coe_mul, ← coe_sum]
    rw [Ideal.sqrt_coe, if_neg (not_lt.mpr (Finset.sum_nonneg fun d _ => mul_self_nonneg _))]
  rw [hn]
  have hd : ∀ d : Fin 256, (K d : EReal) * Scalar.select (IntOp.cmpi .eq (BitVec.ofNat 32 d.val) 192#32)
        (0 - ((Real.sqrt (∑ d, Q d * qs * (Q d * qs)) : ℝ) : EReal) * (k : EReal))
        ((Q d : EReal) * Named.named (F := Ideal) (φ := .f32) κ "q_scale" 0x3DD53B95#32)
      = ((K d * (if d = 192 then -bnd Q k else Q d * qs) : ℝ) : EReal) := by
    intro d
    rw [select_lane, named_qs]
    split
    · rw [zero_sub, ← EReal.coe_mul, ← EReal.coe_neg, ← EReal.coe_mul]; rfl
    · rw [← EReal.coe_mul, ← EReal.coe_mul]
  rw [Finset.sum_congr rfl fun d _ => hd d, ← coe_sum, dot_lanes K Q (bnd Q k) qs hK hQ]
  congr 1
  unfold score
  ring

/-- The halves of the queries' block, at an element. -/
theorem qa_apply (x0 : Vec Ideal S1x1x2048x256 .bf16) (r : Fin 1024) (d : Fin 256) : qa x0 (ix4 0 0 r d) = x0 (ix4 0 0 ⟨r.val, by omega⟩ d) := by
  pointwise [qa]
theorem qb_apply (x0 : Vec Ideal S1x1x2048x256 .bf16) (r : Fin 1024) (d : Fin 256) : qb x0 (ix4 0 0 r d) = x0 (ix4 0 0 ⟨1024 + r.val, by omega⟩ d) := by
  pointwise [qb]

/-- Two stores of halves, read at a row. -/
theorem canon_row (w1 w0 : Vec Ideal S1x1024x128 .bf16) (G : Fin 2048 → EReal) (c : Fin 128)
    (g0 : ∀ r : Fin 1024, w0 (ix3 0 r c) = G ⟨r.val, by omega⟩) (g1 : ∀ r : Fin 1024, w1 (ix3 0 r c) = G ⟨1024 + r.val, by omega⟩)
    (R : Fin 2048) : View.canon (Val := Elt Ideal) [⟨ro1, w1⟩, ⟨ro0, w0⟩] (ix3 0 R c) = G R := by
  canon_tiles x h using halves_cover w1 w0 (ix3 0 R c)
  · obtain ⟨a, r, d, rfl⟩ : ∃ (a : Fin 1) (r : Fin 1024) (d : Fin 128), x = ix3 a r d := ⟨x 0, x 1, x 2, eq_ix3 x⟩
    obtain rfl : a = 0 := Subsingleton.elim _ _
    obtain rfl : c = d := Fin.ext h2
    exact (g1 r).trans (congrArg G (Fin.ext h1.symm))
  · obtain ⟨a, r, d, rfl⟩ : ∃ (a : Fin 1) (r : Fin 1024) (d : Fin 128), x = ix3 a r d := ⟨x 0, x 1, x 2, eq_ix3 x⟩
    obtain rfl : a = 0 := Subsingleton.elim _ _
    obtain rfl : c = d := Fin.ext h2
    exact (g0 r).trans (congrArg G (Fin.ext h1.symm))

variable (x0 : Vec Ideal S1x1x2048x256 .bf16) (x1 : Vec Ideal S1x1x4096x256 .bf16) (vt : Vec Ideal S128x4096 .bf16) (km : Vec Ideal S1x256 .f32)
variable (Q : Fin 2048 → Fin 256 → ℝ) (K : Fin 4096 → Fin 256 → ℝ) (k : ℝ)

/-- A row's weights in the first pass, and its result. -/
theorem fast_row (q : Fin 256 → ℝ) (hK : ∀ j, K j 192 = 1) (hQ : q 192 = 0) (v : Fin 4096 → EReal) :
    Ideal.div (∑ j, v j * FloatOps.exp2 (F := Ideal) (φ := .f32) ((score (K j) q * (Real.log 2)⁻¹ - bnd q k : ℝ) : EReal))
        (∑ j, FloatOps.exp2 (F := Ideal) (φ := .f32) ((score (K j) q * (Real.log 2)⁻¹ - bnd q k : ℝ) : EReal))
      = soft (fun j => score (K j) q) v := by
  simp only [exp2_real]
  exact soft_after _ _ _ (Real.exp (-(bnd q k * Real.log 2))) (Real.exp_pos _) fun j => rpow_two _ _

/-- A row's weights in the second pass, and its result. -/
theorem slow_row (q : Fin 256 → ℝ) (hK : ∀ j, K j 192 = 1) (hQ : q 192 = 0) (v : Fin 4096 → EReal) :
    Ideal.div (∑ j, v j * FloatOps.exp2 (F := Ideal) (φ := .f32) (((score (K j) q * (Real.log 2)⁻¹ - bnd q k : ℝ) : EReal)
            - Finset.univ.fold max (Ideal.ofBits .f32 0xFF800000#32) (fun i => ((score (K i) q * (Real.log 2)⁻¹ - bnd q k : ℝ) : EReal))))
        (∑ j, FloatOps.exp2 (F := Ideal) (φ := .f32) (((score (K j) q * (Real.log 2)⁻¹ - bnd q k : ℝ) : EReal)
            - Finset.univ.fold max (Ideal.ofBits .f32 0xFF800000#32) (fun i => ((score (K i) q * (Real.log 2)⁻¹ - bnd q k : ℝ) : EReal))))
      = soft (fun j => score (K j) q) v := by
  obtain ⟨M, hM, hle⟩ := fold_max_coe (Finset.univ : Finset (Fin 4096)) ⟨0, Finset.mem_univ _⟩ (fun i => score (K i) q * (Real.log 2)⁻¹ - bnd q k)
  rw [ofBits_neg_inf, hM]
  simp only [← EReal.coe_sub, sub_sub, exp2_real]
  exact soft_after _ _ _ (Real.exp (-((bnd q k + M) * Real.log 2))) (Real.exp_pos _) fun j => rpow_two _ _

section
variable (h0 : ∀ r d, x0 (ix4 0 0 r d) = ((Q r d : ℝ) : EReal)) (h1 : ∀ j d, x1 (ix4 0 0 j d) = ((K j d : ℝ) : EReal))
  (hk : ∀ d, km (ix2 0 d) = ((k : ℝ) : EReal)) (hQ : ∀ r, Q r 192 = 0) (hK : ∀ j, K j 192 = 1)
include h0 h1 hk hQ hK

theorem fast0_row (r : Fin 1024) (c : Fin 128) : fast0 x0 x1 vt km (ix3 0 r c)
    = soft (fun j => score (K j) (Q ⟨r.val, by omega⟩)) (fun j => vt (ix2 c j)) := by
  pointwise [fast0, k0_pay19, k0_pay16, k0_pay17, k0_pay18]
  simp only [qa_apply, qb_apply, h0, h1, hk]
  simp only [score_eq _ _ k (hK _) (hQ _)]
  exact fast_row K k _ hK (hQ _) _

theorem fast1_row (r : Fin 1024) (c : Fin 128) : fast1 x0 x1 vt km (ix3 0 r c)
    = soft (fun j => score (K j) (Q ⟨1024 + r.val, by omega⟩)) (fun j => vt (ix2 c j)) := by
  pointwise [fast1, k0_pay1, k0_pay2, k0_pay3, k0_pay4, k0_pay21, k0_pay22, k0_pay23]
  simp only [qa_apply, qb_apply, h0, h1, hk]
  simp only [score_eq _ _ k (hK _) (hQ _)]
  exact fast_row K k _ hK (hQ _) _

theorem slow0_row (r : Fin 1024) (c : Fin 128) : slow0 x0 x1 vt km (ix3 0 r c)
    = soft (fun j => score (K j) (Q ⟨r.val, by omega⟩)) (fun j => vt (ix2 c j)) := by
  pointwise [slow0, k0_pay9, k0_pay10, k0_pay11, k0_pay12]
  simp only [qa_apply, qb_apply, h0, h1, hk]
  simp only [score_eq _ _ k (hK _) (hQ _)]
  exact slow_row K k _ hK (hQ _) _

theorem slow1_row (r : Fin 1024) (c : Fin 128) : slow1 x0 x1 vt km (ix3 0 r c)
    = soft (fun j => score (K j) (Q ⟨1024 + r.val, by omega⟩)) (fun j => vt (ix2 c j)) := by
  pointwise [slow1, k0_pay6, k0_pay7, k0_pay8, k0_pay13]
  simp only [qa_apply, qb_apply, h0, h1, hk]
  simp only [score_eq _ _ k (hK _) (hQ _)]
  exact slow_row K k _ hK (hQ _) _

/-- The point's output block, row by row. -/
theorem outBlk_row (R : Fin 2048) (c : Fin 128) : outBlk x0 x1 vt km (ix3 0 R c)
    = soft (fun j => score (K j) (Q R)) (fun j => vt (ix2 c j)) := by
  unfold outBlk
  split
  · exact canon_row _ _ (fun R => soft (fun j => score (K j) (Q R)) (fun j => vt (ix2 c j))) c
      (fun r => slow0_row x0 x1 vt km Q K k h0 h1 hk hQ hK r c) (fun r => slow1_row x0 x1 vt km Q K k h0 h1 hk hQ hK r c) R
  · exact canon_row _ _ (fun R => soft (fun j => score (K j) (Q R)) (fun j => vt (ix2 c j))) c
      (fun r => fast0_row x0 x1 vt km Q K k h0 h1 hk hQ hK r c) (fun r => fast1_row x0 x1 vt km Q K k h0 h1 hk hQ hK r c) R
end

/-- The keys' largest norm is one real number, in every lane. -/
theorem kmax_real (x1 : Vec Ideal S1x1x4096x256 .bf16) (h1 : ∀ j d, x1 (ix4 0 0 j d) = ((K j d : ℝ) : EReal)) :
    ∃ k : ℝ, ∀ d, k0_pay15 x1 (ix2 0 d) = ((k : ℝ) : EReal) := by
  obtain ⟨M, hM, hle⟩ := fold_max_coe (Finset.univ : Finset (Fin 4096)) ⟨0, Finset.mem_univ _⟩ (fun j => ∑ d, K j d * K j d)
  have hM0 : ¬ M < 0 := by
    exact not_lt.mpr ((Finset.sum_nonneg fun d _ => mul_self_nonneg (K 0 d)).trans (hle 0 (Finset.mem_univ _)))
  refine ⟨Real.sqrt M, fun d => ?_⟩
  pointwise [k0_pay15]
  simp only [h1, ← EReal.coe_mul, ← coe_sum]
  rw [ofBits_neg_inf, hM, Ideal.sqrt_coe, if_neg hM0]

/-- The values, transposed. -/
theorem vt_apply (x2 : Vec Ideal S1x1x4096x128 .bf16) (c : Fin 128) (j : Fin 4096) : k0_pay14 x2 (ix2 c j) = x2 (ix4 0 0 j c) := by
  pointwise [k0_pay14]

end Cert.AttnIdeal.Body

end
-- ==== Proof.AttnValue.lean ====
/- The attention kernel's result array over the extended reals: at every element, the attention of its row. -/
module

public import proofs.«01_k».proof.Proof.IdealValue
public import Idealize.ShloMosaic.Lib.Claim

@[expose] public section

set_option maxRecDepth 16384
set_option maxHeartbeats 1600000

noncomputable section

namespace Cert.AttnIdeal.Body

open Idealize.ShloMosaic Idealize.ShloMosaic.Pointwise Idealize.ShloMosaic.TcCoe
open Cert.AttnIdeal.Gen Cert.Soft

variable (m : (ℓ : Loc nD τ sig) → Buf (Elt Ideal) ℓ) (c : Dev nD)

theorem idx : ∀ t : Fin cfg0.N, win0_0.index t = ![t.val / 16, t.val / 2 % 8, t.val % 2, 0] ∧ win0_1.index t = ![t.val / 16, t.val / 2 % 8, 0, 0]
    ∧ win0_2.index t = ![t.val / 16, t.val / 2 % 8, 0, 0] ∧ win0_3.index t = ![t.val / 16, t.val % 2, t.val / 2 % 8] :=
  (by decide +kernel : ∀ t : Fin grid0.N, _)

/-- The queries, the keys and the values as the program is given them. -/
abbrev q0 : S8x8x4096x192.Idx → EReal := m ((c : Thread nD τ).loc main_arg0)
abbrev k0 : S8x8x4096x192.Idx → EReal := m ((c : Thread nD τ).loc main_arg1)
abbrev v0 : S8x8x4096x128.Idx → EReal := m ((c : Thread nD τ).loc main_arg2)

/-- The queries' block at a point: 192 lanes of the queries, then zeros. -/
theorem iblk0_apply (t : Fin cfg0.N) (r : Fin 2048) (d : Fin 256) (b h : Fin 8) (R : Fin 4096) (hb : b.val = t.val / 16) (hh : h.val = t.val / 2 % 8)
    (hR : R.val = t.val % 2 * 2048 + r.val) :
    (iblk m c 0 t (ix4 0 0 r d) : EReal) = if hd : d.val < 192 then q0 m c (ix4 b h R ⟨d.val, hd⟩) else (0 : EReal) := by
  have e : ((View.whole main_v4).slice (win0_0.rect t)).emb (ix4 0 0 r d) = ix4 b h R d := by
    blk_ext [idx t]
  unfold iblk
  rw [View.read_apply]
  show V m c main_v4 (((View.whole main_v4).slice (win0_0.rect t)).emb (ix4 0 0 r d)) = _
  rw [e]
  entry_read
  pointwise

/-- The keys as the region finds them. -/
theorem V_v6 : V m c main_v6 = truncf .bf16 (concatenate S8x8x4096x256 3 [⟨S8x8x4096x192, k0 m c⟩,
   ⟨S8x8x4096x1, broadcastInDim S8x8x4096x1 ![] Facts₀.bcast_S_S8x8x4096x1 (constant (F := Ideal) S_ .f32 0x3F800000#32)⟩,
   ⟨S8x8x4096x63, broadcastInDim S8x8x4096x63 ![] Facts₀.bcast_S_S8x8x4096x63 (constant (F := Ideal) S_ .f32 0x00000000#32)⟩] Facts₀.concatenates_S8x8x4096x192_S8x8x4096x1_S8x8x4096x63_S8x8x4096x256_d3) Facts₀.bitsLt_bf16_f32 := by
  unfold V
  after_results
  all_goals rfl

/-- The keys' block at a point: 192 lanes of the keys, a one, then zeros. -/
theorem iblk1_apply (t : Fin cfg0.N) (j : Fin 4096) (d : Fin 256) (b h : Fin 8) (hb : b.val = t.val / 16) (hh : h.val = t.val / 2 % 8) :
    (iblk m c 1 t (ix4 0 0 j d) : EReal) = if hd : d.val < 192 then k0 m c (ix4 b h j ⟨d.val, hd⟩) else if d.val = 192 then (1 : EReal) else (0 : EReal) := by
  have e : ((View.whole main_v6).slice (win0_1.rect t)).emb (ix4 0 0 j d) = ix4 b h j d := by
    blk_ext [idx t]
  unfold iblk
  rw [View.read_apply]
  show V m c main_v6 (((View.whole main_v6).slice (win0_1.rect t)).emb (ix4 0 0 j d)) = _
  rw [e]
  rw [V_v6]
  pointwise
  by_cases h1 : d.val < 192
  · simp only [h1, ↓reduceDIte]
  · simp only [h1, ↓reduceDIte]
    by_cases h2 : d.val = 192
    · simp [h2]
    · have : ¬ d.val - 192 < 1 := by omega
      simp [this, h2]

/-- The values' block at a point. -/
theorem iblk2_apply (t : Fin cfg0.N) (j : Fin 4096) (d : Fin 128) (b h : Fin 8) (hb : b.val = t.val / 16) (hh : h.val = t.val / 2 % 8) :
    (iblk m c 2 t (ix4 0 0 j d) : EReal) = v0 m c (ix4 b h j d) := by
  have e : ((View.whole main_v7).slice (win0_2.rect t)).emb (ix4 0 0 j d) = ix4 b h j d := by
    blk_ext [idx t]
  unfold iblk
  rw [View.read_apply]
  show V m c main_v7 (((View.whole main_v7).slice (win0_2.rect t)).emb (ix4 0 0 j d)) = _
  rw [e]
  entry_read
  pointwise
  try rfl

/-- One row of the queries, widened to 256 lanes with zeros, as reals. -/
def qrow (b h : Fin 8) (R : Fin 4096) (d : Fin 256) : ℝ := if hd : d.val < 192 then (q0 m c (ix4 b h R ⟨d.val, hd⟩)).toReal else 0
/-- One row of the keys, widened to 256 lanes with a one and zeros, as reals. -/
def krow (b h : Fin 8) (j : Fin 4096) (d : Fin 256) : ℝ := if hd : d.val < 192 then (k0 m c (ix4 b h j ⟨d.val, hd⟩)).toReal else if d.val = 192 then 1 else 0

/-- One element of the attention: row `R` of head `h` of entry `b`, lane `e` of the values. -/
def attnAt (b h : Fin 8) (R : Fin 4096) (e : Fin 128) : EReal :=
  soft (fun j => (∑ d : Fin 192, (k0 m c (ix4 b h j d)).toReal * (q0 m c (ix4 b h R d)).toReal) * α) (fun j => v0 m c (ix4 b h j e))

theorem score_rows (b h : Fin 8) (R j : Fin 4096) :
    score (krow m c b h j) (qrow m c b h R) = (∑ d : Fin 192, (k0 m c (ix4 b h j d)).toReal * (q0 m c (ix4 b h R d)).toReal) * α := by
  unfold score
  rw [dot_pad _ _ fun d hd => by unfold qrow; rw [dif_neg (by omega)]]
  congr 1

section
variable (hq : ∀ i, q0 m c i = ((q0 m c i).toReal : EReal)) (hk : ∀ i, k0 m c i = ((k0 m c i).toReal : EReal))
include hq hk

/-- The output block at a point. -/
theorem after_row (t : Fin cfg0.N) (r : Fin 2048) (e : Fin 128) (b h : Fin 8) (R : Fin 4096) (hb : b.val = t.val / 16) (hh : h.val = t.val / 2 % 8)
    (hR : R.val = t.val % 2 * 2048 + r.val) : ((dats m 0 c).after 3 t (ix3 0 r e) : EReal) = attnAt m c b h R e := by
  rw [after0_3]
  have hs : ∀ u : Fin cfg0.N, ∀ (j : Fin 4096) (d : Fin 256), (b.val = u.val / 16) → (h.val = u.val / 2 % 8) →
      (iblk m c 1 u (ix4 0 0 j d) : EReal) = ((krow m c b h j d : ℝ) : EReal) := by
    intro u j d hb hh
    rw [iblk1_apply m c u j d b h hb hh]
    unfold krow
    split
    · exact hk _
    · split <;> simp
  have eb : b.val = (ev t.val t.isLt).val / 16 := by simp only [ev]; omega
  have eh : h.val = (ev t.val t.isLt).val / 2 % 8 := by simp only [ev]; omega
  obtain ⟨k, hkm⟩ := kmax_real (krow m c b h) (iblk m c 1 (ev t.val t.isLt)) (fun j d => hs _ j d eb eh)
  have hRr : ∀ r : Fin 2048, t.val % 2 * 2048 + r.val < 4096 := fun r => by omega
  rw [outBlk_row (iblk m c 0 t) (iblk m c 1 t) (vtAt m c t.val t.isLt) (kmAt m c t.val t.isLt)
    (fun r => qrow m c b h ⟨t.val % 2 * 2048 + r.val, hRr r⟩) (krow m c b h) k ?_ (fun j d => hs t j d hb hh) hkm ?_ ?_ r e]
  · unfold attnAt
    congr 1
    · funext j
      rw [score_rows]
      rw [show (⟨t.val % 2 * 2048 + r.val, hRr r⟩ : Fin 4096) = R from Fin.ext hR.symm]
    · funext j
      unfold vtAt
      rw [vt_apply, iblk2_apply m c _ j e b h eb eh]
  · intro r d
    rw [iblk0_apply m c t r d b h ⟨t.val % 2 * 2048 + r.val, hRr r⟩ hb hh rfl]
    unfold qrow
    split
    · exact hq _
    · simp
  · intro r; unfold qrow; rw [dif_neg (by decide)]
  · intro j; unfold krow; rw [dif_neg (by decide), if_pos (by decide)]

/-- The result array after the run. -/
theorem final : (dats m 0 c).arrAt 3 cfg0.N = fun i : S8x4096x1024.Idx =>
    attnAt m c (i 0) ⟨(i 2).val / 128, Nat.div_lt_of_lt_mul (i 2).isLt⟩ (i 1) ⟨(i 2).val % 128, Nat.mod_lt _ (by decide)⟩ := by
  refine (dats m 0 c).arrAt_eq_of_covers 3 _ (by decide +kernel) fun t hf y => ?_
  obtain ⟨a, r, e, rfl⟩ : ∃ (a : Fin 1) (r : Fin 2048) (e : Fin 128), y = ix3 a r e := ⟨y 0, y 1, y 2, eq_ix3 y⟩
  obtain rfl : a = 0 := Subsingleton.elim _ _
  have ht : t.val < 128 := t.isLt
  have hR : t.val % 2 * 2048 + r.val < 4096 := by omega
  have hE : t.val / 2 % 8 * 128 + e.val < 1024 := by omega
  have eb : ((View.whole main_v8).slice (win0_3.rect t)).emb (ix3 0 r e) = ix3 (⟨t.val / 16, by omega⟩ : Fin 8) (⟨t.val % 2 * 2048 + r.val, hR⟩ : Fin 4096) (⟨t.val / 2 % 8 * 128 + e.val, hE⟩ : Fin 1024) := by
    blk_ext [idx t]
  have key := after_row m c hq hk t r e ⟨t.val / 16, by omega⟩ ⟨t.val / 2 % 8, by omega⟩ ⟨t.val % 2 * 2048 + r.val, hR⟩ rfl rfl rfl
  refine Eq.trans ?_ (Eq.trans key ?_)
  · rfl
  · show _ = (fun i : S8x4096x1024.Idx => _) (((View.whole main_v8).slice (win0_3.rect t)).emb (ix3 0 r e))
    rw [eb]
    show attnAt m c _ _ _ _ = attnAt m c _ _ _ _
    congr 1
    · exact Fin.ext (by show t.val / 2 % 8 = (t.val / 2 % 8 * 128 + e.val) / 128; omega)
    · exact Fin.ext (by show e.val = (t.val / 2 % 8 * 128 + e.val) % 128; omega)
end

end Cert.AttnIdeal.Body

end
-- ==== Proof.RefValue.lean ====
module
public import proofs.«01_k».proof.Proof.Softmax
public import proofs.«01_k».proof.Proof.Gen.AttnRefIdeal
public import proofs.«01_k».proof.Proof.Gen.AttnRefIdeal.Run
public import proofs.«01_k».proof.Proof.Gen.AttnRefIdeal.Read
@[expose] public section
set_option maxRecDepth 16384
set_option maxHeartbeats 1600000
noncomputable section
/-! The reference's result, entry by entry: a softmax over the keys of the scaled scores. -/
namespace Cert.AttnRefIdeal.RefValue
open Idealize.ShloMosaic Idealize.ShloMosaic.Pointwise
open Cert.Soft Cert.AttnRefIdeal Cert.AttnRefIdeal.Read

/-- The scale is one over the square root of 192. -/
theorem scale (i : S_.Idx) : (val_main_v1 (F := Ideal) i : EReal) = (((Real.sqrt 192)⁻¹ : ℝ) : EReal) := by
  rw [val_main_v1_apply, val_main_v0_apply, val_main_cst_apply, val_main_cst_0_apply]
  rw [Ideal.hostDivf_def, Ideal.hostUnary_sqrt_def]
  show Ideal.div (Ideal.ofBits .f32 0x3F800000#32) (Ideal.sqrt (Ideal.ofBits .f32 0x43400000#32)) = _
  rw [ofBits_192, Ideal.ofBits_one_f32]
  have h : (0 : ℝ) < Real.sqrt 192 := Real.sqrt_pos.mpr (by norm_num)
  rw [Ideal.sqrt_coe, if_neg (by norm_num), Ideal.div_coe h.ne', one_mul, one_div]

variable (x0 x1 : S8x8x4096x192.Idx → EReal) (x2 : S8x8x4096x128.Idx → EReal) (q k : S8x8x4096x192.Idx → ℝ)

/-- The scaled score of query row `r` and key row `j`, over the reals. -/
def sc (b h : Fin 8) (r j : Fin 4096) : ℝ := (∑ d : Fin 192, k (ix4 b h j d) * q (ix4 b h r d)) * (Real.sqrt 192)⁻¹

section
variable (hq : ∀ i, x0 i = (q i : EReal)) (hk : ∀ i, x1 i = (k i : EReal))
include hq hk

/-- The reference's scores. -/
theorem scores (b h : Fin 8) (r j : Fin 4096) : (val_main_v4 (F := Ideal) x0 x1 (ix4 b h r j) : EReal) = ((sc q k b h r j : ℝ) : EReal) := by
  rw [val_main_v4_apply, val_main_v2_apply, val_main_v3_apply, scale]
  unfold sc
  rw [EReal.coe_mul]
  refine Eq.trans ?_ (congrArg (fun x : EReal => x * (((Real.sqrt 192)⁻¹ : ℝ) : EReal)) (coe_sum Finset.univ _).symm)
  refine congrArg (· * _) (Finset.sum_congr rfl fun d _ => ?_)
  rw [hq, hk, EReal.coe_mul, mul_comm]
  exact congrArg₂ (fun a b : EReal => a * b) (congrArg (fun i => ((k i : ℝ) : EReal)) (by funext a; fin_cases a <;> rfl)) (congrArg (fun i => ((q i : ℝ) : EReal)) (by funext a; fin_cases a <;> rfl))

/-- A row's maximum is a real number. -/
theorem rowmax (b h : Fin 8) (r : Fin 4096) : ∃ M : ℝ, (val_main_v7 (F := Ideal) x0 x1 (ix3 b h r) : EReal) = (M : EReal) := by
  obtain ⟨M, hM, -⟩ := fold_max_coe Finset.univ Finset.univ_nonempty (sc q k b h r)
  refine ⟨M, ?_⟩
  have e : (val_main_v5 (F := Ideal) x0 x1 (ix3 b h r) : EReal) = (M : EReal) := by
    unfold val_main_v5
    pointwise
    rw [← hM, val_main_cst_1_apply]
    rw [show (FloatOps.ofBits .f32 0xFF800000#32 : Ideal .f32) = (⊥ : EReal) from ofBits_neg_inf]
    exact congrArg (fun f : Fin 4096 → EReal => Finset.fold max (⊥ : EReal) f Finset.univ) (funext fun j => scores x0 x1 q k hq hk b h r j)
  have hb : (val_main_v6 (F := Ideal) (ix3 b h r) : EReal) = ⊥ := by
    rw [val_main_v6_apply, val_main_cst_2_apply]
    exact ofBits_neg_inf
  rw [val_main_v7_apply, e, hb]
  exact max_eq_right (bot_le (a := (M : EReal)))

/-- The exponentials of a row: one positive factor times the exponentials of its scores. -/
theorem exps (b h : Fin 8) (r : Fin 4096) : ∃ M : ℝ, ∀ j, (val_main_v11 (F := Ideal) x0 x1 (ix4 b h r j) : EReal) = ((Real.exp (-M) * Real.exp (sc q k b h r j) : ℝ) : EReal) := by
  obtain ⟨M, hM⟩ := rowmax x0 x1 q k hq hk b h r
  refine ⟨M, fun j => ?_⟩
  have e : (val_main_v9 (F := Ideal) x0 x1 (ix4 b h r j) : EReal) = (M : EReal) := by
    rw [val_main_v9_apply, val_main_v8_apply, ← hM]
    exact congrArg (val_main_v7 (F := Ideal) x0 x1) (by funext a; fin_cases a <;> rfl)
  rw [val_main_v11_apply, val_main_v10_apply, scores x0 x1 q k hq hk, e]
  show Ideal.exp (((sc q k b h r j : ℝ) : EReal) - (M : EReal)) = _
  rw [← EReal.coe_sub, Ideal.exp_coe, ← Real.exp_add, neg_add_eq_sub]

/-- The reference's result, entry by entry. -/
theorem result (b : Fin 8) (r : Fin 4096) (e : Fin 1024) : (val_main_v19 (F := Ideal) x0 x1 x2 (ix3 b r e) : EReal) =
    soft (fun j => sc q k b ⟨e.val / 128, Nat.div_lt_of_lt_mul e.isLt⟩ r j) (fun j => x2 (ix4 b ⟨e.val / 128, Nat.div_lt_of_lt_mul e.isLt⟩ j ⟨e.val % 128, Nat.mod_lt _ (by decide)⟩)) := by
  unfold val_main_v19 val_main_v18 val_main_v17 val_main_v16
  pointwise
  generalize (⟨e.val / 128, Nat.div_lt_of_lt_mul e.isLt⟩ : Fin 8) = h
  obtain ⟨M, hM⟩ := exps x0 x1 q k hq hk b h r
  rw [← soft_before (fun j => sc q k b h r j) _ (fun j => Real.exp (-M) * Real.exp (sc q k b h r j)) (Real.exp (-M)) (Real.exp_pos _) (fun j => rfl)]
  refine Finset.sum_congr rfl fun j _ => congrArg (_ * ·) ?_
  have hs : (val_main_v14 (F := Ideal) x0 x1 (ix4 b h r j) : EReal) = ∑ i : Fin 4096, ((Real.exp (-M) * Real.exp (sc q k b h r i) : ℝ) : EReal) := by
    rw [val_main_v14_apply, val_main_v13_apply, val_main_v12_apply, val_main_cst_3_apply]
    refine Eq.trans (congrArg (· + _) Ideal.ofBits_zero_f32) ?_
    rw [zero_add]
    refine Finset.sum_congr rfl fun i _ => ?_
    rw [← hM i]
    exact congrArg (val_main_v11 (F := Ideal) x0 x1) (by funext a; fin_cases a <;> rfl)
  rw [val_main_v15_apply, hM, hs, Ideal.hostDivf_def]
end
end Cert.AttnRefIdeal.RefValue
end
-- ==== Proof.AttnClaim.lean ====
module

public import proofs.«01_k».proof.Defs
public import proofs.«01_k».proof.Proof.Gen.Pre_finite
public import proofs.«01_k».proof.Proof.Gen.AttnRefIdeal.Run
public import proofs.«01_k».proof.Proof.IdealRun
public import proofs.«01_k».proof.Proof.BitsRun
public import proofs.«01_k».proof.Proof.AttnValue
public import proofs.«01_k».proof.Proof.RefValue
public import Idealize.ShloMosaic.Lib.Claim
public import Idealize.ShloMosaic.Lib.ReduceAll

@[expose] public section

set_option maxRecDepth 16384

noncomputable section

/-! The claims about the attention call. -/

namespace Cert.AttnClaims

open Idealize.ShloMosaic Idealize.ShloMosaic.Pointwise Idealize.SL.Sem

/-- An extended real whose absolute value is below infinity is a real number. -/
theorem real_of_abs_lt (x : EReal) (h : Ideal.cmp .olt (max x (-x)) (Ideal.ofBits .f32 0x7F800000#32) = 1#1) : x = ((x.toReal : ℝ) : EReal) := by
  rw [Cert.Soft.ofBits_inf] at h
  have hx : max x (-x) < ⊤ := by
    by_contra hn
    have : Ideal.cmp .olt (max x (-x)) ⊤ = 0#1 := by
      unfold Ideal.cmp
      simp only [decide_eq_false hn]
      rfl
    rw [this] at h
    exact absurd h (by decide)
  refine (EReal.coe_toReal ?_ ?_).symm
  · rintro rfl; simp at hx
  · rintro rfl; simp at hx

/-- The precondition makes every query and every key a real number. -/
theorem finite_args (x0 x1 : FVec Ideal Cert.Pre_finite.S8x8x4096x192 .f32) (x2 : FVec Ideal Cert.Pre_finite.S8x8x4096x128 .f32)
    (h : Cert.Pre_finite.fn (F := Ideal) x0 x1 x2 = fun _ => 1#1) :
    (∀ i, (x0 i : EReal) = (((x0 i : EReal).toReal : ℝ) : EReal)) ∧ (∀ i, (x1 i : EReal) = (((x1 i : EReal).toReal : ℝ) : EReal)) := by
  have h0 := congrFun h ix0
  unfold Cert.Pre_finite.fn at h0
  have h1 : ∀ a b : BitVec 1, IntOp.andi a b = 1#1 → a = 1#1 ∧ b = 1#1 := by decide
  obtain ⟨ha, hb⟩ := h1 _ _ h0
  exact ⟨fun i => real_of_abs_lt _ (Host.reduce_andi_all _ _ _ _ _ ha i), fun i => real_of_abs_lt _ (Host.reduce_andi_all _ _ _ _ _ hb i)⟩

/-- The reference's frame: it declares no semaphore. -/
theorem frame_ref (m : (ℓ : Loc Cert.AttnRefIdeal.nD Cert.AttnRefIdeal.τ Cert.AttnRefIdeal.sig) → Buf (Elt Ideal) ℓ) (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0) :=
  (θ_run Cert.AttnRefIdeal.defs _ _).mono (fun r h => ⟨fun c => (h c).2, sem_eq_zero_of_no_sems (by decide) r.2⟩)
    (Cert.AttnRefIdeal.Value.run (F := Ideal) m g)

/-- The attention kernel and the reference compute the same array over the extended reals. -/
theorem attention : Cert.algebraic_AttnIdeal_AttnRefIdeal_pre_finite := by
  pair_intro
  · run_from Cert.AttnIdeal.Body.run_main m g
  · run_from Cert.AttnRefIdeal.Value.run m' g'
    obtain ⟨hq, hk⟩ := finite_args _ _ _ (hpre c)
    refine Eq.trans ?_ (Cert.AttnIdeal.Body.final m c hq hk).symm
    refine (Cert.AttnRefIdeal.Read.val_main_v19_eq _ _ _).trans ?_
    funext i
    obtain ⟨b, r, e, rfl⟩ : ∃ (b : Fin 8) (r : Fin 4096) (e : Fin 1024), i = ix3 b r e := ⟨i 0, i 1, i 2, eq_ix3 i⟩
    exact Cert.AttnRefIdeal.RefValue.result _ _ _ _ _ hq hk b r e

end Cert.AttnClaims

end
-- ==== Proof.Rows.lean ====
module

public import Idealize.ShloMosaic.PureOps.Ideal.Laws
public import Idealize.ShloMosaic.Lib.Pointwise

@[expose] public section

noncomputable section

/-! What the feed-forward call and the last call compute from one row of the residual stream, over the extended reals. -/

namespace Cert.Rows

open Idealize.ShloMosaic

/-- The root-mean-square norm of a row, with its gains. -/
def rms (x g : Fin 1024 → EReal) (i : Fin 1024) : EReal :=
  x i * Ideal.rsqrt (Ideal.div (∑ k, x k * x k) (Ideal.ofBits .f32 0x44800000#32) + Ideal.ofBits .f32 0x358637BD#32) * g i

/-- A row times a matrix. -/
def mm {n k : Nat} (x : Fin n → EReal) (w : Fin n → Fin k → EReal) (j : Fin k) : EReal := ∑ i, x i * w i j

/-- The gated hidden layer. -/
def hid {n k : Nat} (x : Fin n → EReal) (wg wu : Fin n → Fin k → EReal) (f : Fin k) : EReal :=
  mm x wg f * Ideal.logistic (mm x wg f) * mm x wu f

/-- A row plus half of its feed-forward part. -/
def swi (x g : Fin 1024 → EReal) (wg wu : Fin 1024 → Fin 2816 → EReal) (wd : Fin 2816 → Fin 1024 → EReal) (i : Fin 1024) : EReal :=
  x i + Ideal.ofBits .f32 0x3F000000#32 * ∑ f, hid (rms x g) wg wu f * wd f i

/-- The gelu in its tanh form, with the program's constants. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- The two mixers' outputs, projected, gated and added. -/
def merged (ys zg ob ga gb : Fin 1024 → EReal) (wl wm : Fin 1024 → Fin 1024 → EReal) (j : Fin 1024) : EReal :=
  Ideal.logistic (ga j) * mm (fun i => ys i * gelu (zg i)) wl j + Ideal.logistic (gb j) * mm ob wm j

/-- The residual row after the mixers. -/
def mixed (h ys zg ob ga gb : Fin 1024 → EReal) (wl wm wo : Fin 1024 → Fin 1024 → EReal) (i : Fin 1024) : EReal :=
  h i + mm (merged ys zg ob ga gb wl wm) wo i

/-- A row plus its gated embedding. -/
def embed (h : Fin 1024 → EReal) (p : Fin 256 → EReal) (pg : Fin 1024 → EReal) (wpg : Fin 1024 → Fin 1024 → EReal)
    (wpp : Fin 256 → Fin 1024 → EReal) (ppg : Fin 1024 → EReal) (i : Fin 1024) : EReal :=
  h i + Ideal.logistic (mm (rms h pg) wpg i) * rms (mm p wpp) ppg i

/-- A sum over the first `n + m` numbers is a sum over the first `n` and one over the next `m`. -/
theorem sum_split {n m k : Nat} (h : k = n + m) (F : ℕ → EReal) : ∑ i : Fin k, F i.val = ∑ i : Fin n, F i.val + ∑ i : Fin m, F (n + i.val) := by
  subst h
  rw [Fin.sum_univ_add]
  rfl

/-- A sum over the hidden lanes, in the six pieces in which the kernels take it. -/
theorem chunks (F : Fin 2816 → EReal) : ∑ f, F f =
    ((((∑ x : Fin 512, F ⟨x.val, by omega⟩ + ∑ x : Fin 512, F ⟨512 + x.val, by omega⟩) + ∑ x : Fin 512, F ⟨1024 + x.val, by omega⟩)
      + ∑ x : Fin 512, F ⟨1536 + x.val, by omega⟩) + ∑ x : Fin 512, F ⟨2048 + x.val, by omega⟩) + ∑ x : Fin 256, F ⟨2560 + x.val, by omega⟩ := by
  have e : ∀ f : Fin 2816, F f = (fun i : ℕ => if h : i < 2816 then F ⟨i, h⟩ else 0) f.val := fun f => by simp
  rw [Finset.sum_congr rfl fun f _ => e f]
  generalize hG : (fun i : ℕ => if h : i < 2816 then F ⟨i, h⟩ else 0) = G
  rw [sum_split (n := 2560) (m := 256) rfl G, sum_split (n := 2048) (m := 512) rfl G, sum_split (n := 1536) (m := 512) rfl G,
    sum_split (n := 1024) (m := 512) rfl G, sum_split (n := 512) (m := 512) rfl G]
  have g : ∀ i (h : i < 2816), G i = F ⟨i, h⟩ := fun i h => by rw [← hG]; exact dif_pos h
  refine congrArg₂ (· + ·) (congrArg₂ (· + ·) (congrArg₂ (· + ·) (congrArg₂ (· + ·) (congrArg₂ (· + ·) ?_ ?_) ?_) ?_) ?_) ?_
  all_goals exact Finset.sum_congr rfl fun x _ => g _ (by omega)

end Cert.Rows

end
-- ==== Proof.FfnValue.lean ====
module

public import proofs.«01_k».proof.Proof.Rows
public import proofs.«01_k».proof.Proof.Gen.FfnIdeal.Value
public import Idealize.ShloMosaic.Lib.Pointwise
public import Idealize.ShloMosaic.Lib.Pipeline.ValueKit

@[expose] public section

set_option maxRecDepth 16384
set_option maxHeartbeats 1600000

noncomputable section

/-! The array that the feed-forward call returns, row by row. -/

namespace Cert.FfnIdeal.Body

open Idealize.ShloMosaic Idealize.ShloMosaic.Pointwise Idealize.ShloMosaic.TcCoe
open Cert.FfnIdeal Cert.FfnIdeal.Gen Cert.Rows

/-- The normed rows. -/
theorem normed (v0 : Vec Ideal S1x512x1024 .f32) (v2 : Vec Ideal S1x1024 .f32) (r : Fin 512) (i : Fin 1024) :
    (k0_pay3 v0 v2 (ix2 r i) : EReal) = rms (fun k => v0 (ix3 0 r k)) (fun k => v2 (ix2 0 k)) i := by
  unfold k0_pay3 k0_pay2
  pointwise
  rfl

/-- A block of the output: every row plus half of its feed-forward part. -/
theorem out_row (x0 : Vec Ideal S1x512x1024 .f32) (x1 : Vec Ideal S1x1024 .f32) (x2 x3 : Vec Ideal S1024x2816 .bf16) (x4 : Vec Ideal S2816x1024 .bf16)
    (r : Fin 512) (i : Fin 1024) : (out0_5 x0 x1 x2 x3 x4 (ix3 0 r i) : EReal) =
      swi (fun k => x0 (ix3 0 r k)) (fun k => x1 (ix2 0 k)) (fun k f => x2 (ix2 k f)) (fun k f => x3 (ix2 k f)) (fun f k => x4 (ix2 f k)) i := by
  have hn : ∀ k, (k0_pay8 x0 x1 x2 x3 x4 (ix2 r k) : EReal) = rms (fun k => x0 (ix3 0 r k)) (fun k => x1 (ix2 0 k)) k := fun k => by
    unfold k0_pay8
    rw [normed]
    congr 1 <;> funext k <;> pointwise
  unfold swi
  rw [chunks]
  unfold out0_5
  frame_out
  unfold k0_pay1 k0_pay7 k0_pay4 k0_pay5 k0_pay6 k0_pay2
  pointwise
  simp only [hn, normed]
  rfl

variable (m : (ℓ : Loc nD τ sig) → Buf (Elt Ideal) ℓ) (c : Dev nD)

/-- The grid: eight entries of the batch, eight blocks of 512 rows each. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![t.val / 8, t.val % 8, 0] :=
  (by decide +kernel : ∀ t : Fin grid0.N, _)

/-- The rows, the gains and the three matrices as the program is given them. -/
abbrev a0 : S8x4096x1024.Idx → EReal := m ((c : Thread nD τ).loc main_arg0)
abbrev a1 : S1024.Idx → EReal := m ((c : Thread nD τ).loc main_arg1)
abbrev a2 : S1024x2816.Idx → EReal := m ((c : Thread nD τ).loc main_arg2)
abbrev a3 : S1024x2816.Idx → EReal := m ((c : Thread nD τ).loc main_arg3)
abbrev a4 : S2816x1024.Idx → EReal := m ((c : Thread nD τ).loc main_arg4)

theorem iblk0_apply (t : Fin cfg0.N) (r : Fin 512) (d : Fin 1024) (b : Fin 8) (R : Fin 4096) (hb : b.val = t.val / 8) (hR : R.val = t.val % 8 * 512 + r.val) :
    (iblk m c 0 t (ix3 0 r d) : EReal) = a0 m c (ix3 b R d) := by
  have e : ((View.whole main_arg0).slice (win0_0.rect t)).emb (ix3 0 r d) = ix3 b R d := by
    blk_ext [idx t]
  unfold iblk
  rw [View.read_apply]
  show V m c main_arg0 (((View.whole main_arg0).slice (win0_0.rect t)).emb (ix3 0 r d)) = _
  rw [e]
  entry_read
  try rfl

theorem iblk1_apply (t : Fin cfg0.N) (d : Fin 1024) : (iblk m c 1 t (ix2 0 d) : EReal) = a1 m c (ix1 d) := by
  have e : ((View.whole main_v0).slice (win0_1.rect t)).emb (ix2 0 d) = ix2 0 d := by
    blk_ext [idx t]
  unfold iblk
  rw [View.read_apply]
  show V m c main_v0 (((View.whole main_v0).slice (win0_1.rect t)).emb (ix2 0 d)) = _
  rw [e]
  entry_read
  pointwise

theorem iblk2_apply (t : Fin cfg0.N) (k : Fin 1024) (f : Fin 2816) : (iblk m c 2 t (ix2 k f) : EReal) = a2 m c (ix2 k f) := by
  have e : ((View.whole main_v1).slice (win0_2.rect t)).emb (ix2 k f) = ix2 k f := by
    blk_ext [idx t]
  unfold iblk
  rw [View.read_apply]
  show V m c main_v1 (((View.whole main_v1).slice (win0_2.rect t)).emb (ix2 k f)) = _
  rw [e]
  entry_read
  pointwise

theorem iblk3_apply (t : Fin cfg0.N) (k : Fin 1024) (f : Fin 2816) : (iblk m c 3 t (ix2 k f) : EReal) = a3 m c (ix2 k f) := by
  have e : ((View.whole main_v2).slice (win0_3.rect t)).emb (ix2 k f) = ix2 k f := by
    blk_ext [idx t]
  unfold iblk
  rw [View.read_apply]
  show V m c main_v2 (((View.whole main_v2).slice (win0_3.rect t)).emb (ix2 k f)) = _
  rw [e]
  entry_read
  pointwise

theorem iblk4_apply (t : Fin cfg0.N) (f : Fin 2816) (k : Fin 1024) : (iblk m c 4 t (ix2 f k) : EReal) = a4 m c (ix2 f k) := by
  have e : ((View.whole main_v3).slice (win0_4.rect t)).emb (ix2 f k) = ix2 f k := by
    blk_ext [idx t]
  unfold iblk
  rw [View.read_apply]
  show V m c main_v3 (((View.whole main_v3).slice (win0_4.rect t)).emb (ix2 f k)) = _
  rw [e]
  entry_read
  pointwise

/-- One element of the result. -/
def outAt (b : Fin 8) (R : Fin 4096) (i : Fin 1024) : EReal :=
  swi (fun k => a0 m c (ix3 b R k)) (fun k => a1 m c (ix1 k)) (fun k f => a2 m c (ix2 k f)) (fun k f => a3 m c (ix2 k f)) (fun f k => a4 m c (ix2 f k)) i

/-- The output block at a point. -/
theorem after_row (t : Fin cfg0.N) (r : Fin 512) (i : Fin 1024) (b : Fin 8) (R : Fin 4096) (hb : b.val = t.val / 8) (hR : R.val = t.val % 8 * 512 + r.val) :
    ((dats m 0 c).after 5 t (ix3 0 r i) : EReal) = outAt m c b R i := by
  rw [after0_5, out_row]
  unfold outAt
  simp only [iblk0_apply m c t r _ b R hb hR, iblk1_apply, iblk2_apply, iblk3_apply, iblk4_apply]

/-- The result array after the run. -/
theorem final : (dats m 0 c).arrAt 5 cfg0.N = fun i : S8x4096x1024.Idx => outAt m c (i 0) (i 1) (i 2) := by
  refine (dats m 0 c).arrAt_eq_of_covers 5 _ (by decide +kernel) fun t hf y => ?_
  obtain ⟨a, r, e, rfl⟩ : ∃ (a : Fin 1) (r : Fin 512) (e : Fin 1024), y = ix3 a r e := ⟨y 0, y 1, y 2, eq_ix3 y⟩
  obtain rfl : a = 0 := Subsingleton.elim _ _
  have ht : t.val < 64 := t.isLt
  have hR : t.val % 8 * 512 + r.val < 4096 := by omega
  have eb : ((View.whole main_v4).slice (win0_5.rect t)).emb (ix3 0 r e) = ix3 (⟨t.val / 8, by omega⟩ : Fin 8) (⟨t.val % 8 * 512 + r.val, hR⟩ : Fin 4096) e := by
    blk_ext [idx t]
  have key := after_row m c t r e ⟨t.val / 8, by omega⟩ ⟨t.val % 8 * 512 + r.val, hR⟩ rfl rfl
  refine Eq.trans ?_ (Eq.trans key ?_)
  · rfl
  · show _ = (fun i : S8x4096x1024.Idx => _) (((View.whole main_v4).slice (win0_5.rect t)).emb (ix3 0 r e))
    rw [eb]
    rfl

end Cert.FfnIdeal.Body

end
-- ==== Proof.FfnClaim.lean ====
module

public import proofs.«01_k».proof.Defs
public import proofs.«01_k».proof.Proof.FfnValue
public import proofs.«01_k».proof.Proof.Gen.FfnRefIdeal.Run
public import proofs.«01_k».proof.Proof.Gen.FfnRefIdeal.Read
public import Idealize.ShloMosaic.Lib.Claim
public import Idealize.ShloMosaic.Lib.ReduceAll

@[expose] public section

set_option maxRecDepth 16384
set_option maxHeartbeats 1600000

noncomputable section

/-! The reference of the feed-forward call, row by row, and the claims about the call. -/

namespace Cert.FfnClaims

open Idealize.ShloMosaic Idealize.ShloMosaic.Pointwise Idealize.SL.Sem Cert.Rows

section
open Cert.FfnRefIdeal Cert.FfnRefIdeal.Read
variable (x0 : S8x4096x1024.Idx → EReal) (x1 : S1024.Idx → EReal) (x2 x3 : S1024x2816.Idx → EReal) (x4 : S2816x1024.Idx → EReal)

theorem normed (b : Fin 8) (r : Fin 4096) (i : Fin 1024) :
    (val_main_v12 (F := Ideal) x0 x1 (ix3 b r i) : EReal) = rms (fun k => x0 (ix3 b r k)) (fun k => x1 (ix1 k)) i := by
  unfold val_main_v12 val_main_v11 val_main_v10 val_main_v9 val_main_v8 val_main_v7 val_main_v6 val_main_v5 val_main_cst_1 val_main_v4 val_main_v3
    val_main_cst_0 val_main_v2 val_main_v1 val_main_cst val_main_v0
  pointwise
  rfl

theorem hidden (b : Fin 8) (r : Fin 4096) (f : Fin 2816) :
    (val_main_v16 (F := Ideal) x0 x1 x2 x3 (ix3 b r f) : EReal) = hid (rms (fun k => x0 (ix3 b r k)) (fun k => x1 (ix1 k))) (fun k f => x2 (ix2 k f)) (fun k f => x3 (ix2 k f)) f := by
  unfold val_main_v16 val_main_v15 val_main_v14 val_main_call0_v5 val_main_call0_v4 val_main_call0_cst_0 val_main_call0_v3 val_main_call0_v2
    val_main_call0_cst val_main_call0_v1 val_main_call0_v0 val_main_v13
  pointwise
  simp only [normed]
  rfl

theorem result (b : Fin 8) (r : Fin 4096) (i : Fin 1024) :
    (val_main_v20 (F := Ideal) x0 x1 x2 x3 x4 (ix3 b r i) : EReal) = swi (fun k => x0 (ix3 b r k)) (fun k => x1 (ix1 k)) (fun k f => x2 (ix2 k f)) (fun k f => x3 (ix2 k f)) (fun f k => x4 (ix2 f k)) i := by
  unfold val_main_v20 val_main_v19 val_main_v18 val_main_cst_2 val_main_v17
  pointwise
  simp only [hidden]
  rfl
end

/-- The two programs return the same array. -/
theorem ffn : Cert.algebraic_FfnIdeal_FfnRefIdeal := by
  pair_intro
  · run_from Cert.FfnIdeal.Value.run_blocks m g
  · run_from Cert.FfnRefIdeal.Value.run m' g'
    refine Eq.trans ?_ (Cert.FfnIdeal.Body.final m c).symm
    refine (Cert.FfnRefIdeal.Read.val_main_v20_eq _ _ _ _ _).trans ?_
    funext i
    obtain ⟨b, r, e, rfl⟩ : ∃ (b : Fin 8) (r : Fin 4096) (e : Fin 1024), i = ix3 b r e := ⟨i 0, i 1, i 2, eq_ix3 i⟩
    exact result _ _ _ _ _ b r e

end Cert.FfnClaims

end
-- ==== Proof.TailValue.lean ====
module

public import proofs.«01_k».proof.Proof.Rows
public import proofs.«01_k».proof.Proof.Gen.TailIdeal.Value
public import Idealize.ShloMosaic.Lib.Pointwise
public import Idealize.ShloMosaic.Lib.Pipeline.ValueKit

@[expose] public section

set_option maxRecDepth 16384
set_option maxHeartbeats 1600000

noncomputable section

/-! The array that the last call returns, row by row. -/

namespace Cert.TailIdeal.Body

open Idealize.ShloMosaic Idealize.ShloMosaic.Pointwise Idealize.ShloMosaic.TcCoe
open Cert.TailIdeal Cert.TailIdeal.Gen Cert.Rows

section
variable (x0 : Vec Ideal S1x512x1024 .f32) (x1 x2 x3 x4 x5 : Vec Ideal S1x512x1024 .bf16) (x6 : Vec Ideal S1x1x512x256 .f32)
  (x7 x8 x9 : Vec Ideal S1024x1024 .bf16) (x10 : Vec Ideal S1x1024 .f32) (x11 x12 : Vec Ideal S1024x2816 .bf16) (x13 : Vec Ideal S2816x1024 .bf16)
  (x14 : Vec Ideal S1x1024 .f32) (x15 : Vec Ideal S1024x1024 .bf16) (x16 : Vec Ideal S256x1024 .bf16) (x17 x18 : Vec Ideal S1x1024 .f32)

/-- Row `r` of the residual after the mixers. -/
def h1 (r : Fin 512) : Fin 1024 → EReal :=
  mixed (fun k => x0 (ix3 0 r k)) (fun k => x1 (ix3 0 r k)) (fun k => x2 (ix3 0 r k)) (fun k => x3 (ix3 0 r k)) (fun k => x4 (ix3 0 r k))
    (fun k => x5 (ix3 0 r k)) (fun k j => x7 (ix2 k j)) (fun k j => x8 (ix2 k j)) (fun k j => x9 (ix2 k j))

/-- Row `r` of the residual after the feed-forward part. -/
def h2 (r : Fin 512) : Fin 1024 → EReal :=
  swi (h1 x0 x1 x2 x3 x4 x5 x7 x8 x9 r) (fun k => x10 (ix2 0 k)) (fun k f => x11 (ix2 k f)) (fun k f => x12 (ix2 k f)) (fun f k => x13 (ix2 f k))

theorem mix_row (r : Fin 512) (i : Fin 1024) :
    (k0_pay18 x0 x1 x2 x3 x4 x5 x6 x7 x8 x9 x10 x11 x12 x13 x14 x15 x16 x17 x18 (ix2 r i) : EReal) = h1 x0 x1 x2 x3 x4 x5 x7 x8 x9 r i := by
  unfold k0_pay18 k0_pay17 k0_pay16 k0_pay15 k0_pay6 k0_pay5 k0_pay4 k0_pay3
  pointwise
  rfl

theorem norm_row (r : Fin 512) (i : Fin 1024) :
    (k0_pay21 x0 x1 x2 x3 x4 x5 x6 x7 x8 x9 x10 x11 x12 x13 x14 x15 x16 x17 x18 (ix2 r i) : EReal) = rms (h1 x0 x1 x2 x3 x4 x5 x7 x8 x9 r) (fun k => x10 (ix2 0 k)) i := by
  have hs : ∀ k, (k0_pay6 (k0_pay15 x0 x1 x2 x3 x4 x5 x6 x7 x8 x9 x10 x11 x12 x13 x14 x15 x16 x17 x18) (k0_pay16 x0 x1 x2 x3 x4 x5 x6 x7 x8 x9 x10 x11 x12 x13 x14 x15 x16 x17 x18)
      (k0_pay17 x0 x1 x2 x3 x4 x5 x6 x7 x8 x9 x10 x11 x12 x13 x14 x15 x16 x17 x18) (Ideal.ofBits .f32 1056964608#32) (View.ld x7 r0_4) (View.ld x3 r0_3) (View.ld x8 r0_4)
      (View.ld x4 r0_3) (View.ld x5 r0_3) (View.ld x0 r0_3) (View.ld x9 r0_4) (ix2 r k) : EReal) = h1 x0 x1 x2 x3 x4 x5 x7 x8 x9 r k :=
    fun k => mix_row x0 x1 x2 x3 x4 x5 x6 x7 x8 x9 x10 x11 x12 x13 x14 x15 x16 x17 x18 r k
  unfold k0_pay21 k0_pay20 k0_pay19 k0_pay9 k0_pay8 k0_pay7
  pointwise
  simp only [mix_row, hs]
  rfl

theorem ffn_row (r : Fin 512) (i : Fin 1024) :
    (k0_pay13 (k0_pay18 x0 x1 x2 x3 x4 x5 x6 x7 x8 x9 x10 x11 x12 x13 x14 x15 x16 x17 x18) (k0_pay21 x0 x1 x2 x3 x4 x5 x6 x7 x8 x9 x10 x11 x12 x13 x14 x15 x16 x17 x18) (k0_pay22 x0 x1 x2 x3 x4 x5 x6 x7 x8 x9 x10 x11 x12 x13 x14 x15 x16 x17 x18) (k0_pay23 x0 x1 x2 x3 x4 x5 x6 x7 x8 x9 x10 x11 x12 x13 x14 x15 x16 x17 x18) (View.ld x13 r0_14) (View.ld x11 r0_15) (View.ld x12 r0_15) (View.ld x13 r0_16) (ix2 r i) : EReal)
      = h2 x0 x1 x2 x3 x4 x5 x7 x8 x9 x10 x11 x12 x13 r i := by
  have hn : ∀ k, (k0_pay9 (k0_pay18 x0 x1 x2 x3 x4 x5 x6 x7 x8 x9 x10 x11 x12 x13 x14 x15 x16 x17 x18) (k0_pay19 x0 x1 x2 x3 x4 x5 x6 x7 x8 x9 x10 x11 x12 x13 x14 x15 x16 x17 x18) (k0_pay20 x0 x1 x2 x3 x4 x5 x6 x7 x8 x9 x10 x11 x12 x13 x14 x15 x16 x17 x18) (ix2 r k) : EReal)
      = rms (h1 x0 x1 x2 x3 x4 x5 x7 x8 x9 r) (fun k => x10 (ix2 0 k)) k := fun k => norm_row x0 x1 x2 x3 x4 x5 x6 x7 x8 x9 x10 x11 x12 x13 x14 x15 x16 x17 x18 r k
  unfold h2 swi
  rw [chunks]
  unfold k0_pay13 k0_pay22 k0_pay23 k0_pay10 k0_pay11 k0_pay12
  pointwise
  simp only [mix_row, norm_row, hn]
  rfl

theorem proj_row (r : Fin 512) (i : Fin 1024) : (k0_pay2 x6 x16 x17 (ix2 r i) : EReal)
    = rms (mm (fun k => x6 (ix4 0 0 r k)) fun k j => x16 (ix2 k j)) (fun k => x17 (ix2 0 k)) i := by
  unfold k0_pay2
  pointwise
  rfl

/-- A block of the output. -/
theorem out_row (r : Fin 512) (i : Fin 1024) : (out0_19 x0 x1 x2 x3 x4 x5 x6 x7 x8 x9 x10 x11 x12 x13 x14 x15 x16 x17 x18 (ix3 0 r i) : EReal) =
    rms (embed (h2 x0 x1 x2 x3 x4 x5 x7 x8 x9 x10 x11 x12 x13 r) (fun k => x6 (ix4 0 0 r k)) (fun k => x14 (ix2 0 k)) (fun k j => x15 (ix2 k j))
      (fun k j => x16 (ix2 k j)) (fun k => x17 (ix2 0 k))) (fun k => x18 (ix2 0 k)) i := by
  have hf := ffn_row x0 x1 x2 x3 x4 x5 x6 x7 x8 x9 x10 x11 x12 x13 x14 x15 x16 x17 x18 r
  have hp := proj_row x6 x16 x17 r
  unfold out0_19
  frame_out
  unfold k0_pay14
  generalize k0_pay13 (F := Ideal) _ _ _ _ _ _ _ _ = H at *
  unfold k0_pay1
  pointwise
  simp only [hf, hp]
  rfl
end

variable (m : (ℓ : Loc nD τ sig) → Buf (Elt Ideal) ℓ) (c : Dev nD)

/-- The grid: eight entries of the batch, eight blocks of 512 rows each. -/
theorem idx : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_19.index t = ![t.val / 8, t.val % 8, 0]
    ∧ win0_6.index t = ![0, t.val / 8, t.val % 8, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0] :=
  (by decide +kernel : ∀ t : Fin grid0.N, _)

/-- The arguments as the program is given them. -/
abbrev a0 : S8x4096x1024.Idx → EReal := m ((c : Thread nD τ).loc main_arg0)
abbrev a1 : S8x4096x1024.Idx → EReal := m ((c : Thread nD τ).loc main_arg1)
abbrev a2 : S8x4096x1024.Idx → EReal := m ((c : Thread nD τ).loc main_arg2)
abbrev a3 : S8x4096x1024.Idx → EReal := m ((c : Thread nD τ).loc main_arg3)
abbrev a4 : S8x4096x1024.Idx → EReal := m ((c : Thread nD τ).loc main_arg4)
abbrev a5 : S8x4096x1024.Idx → EReal := m ((c : Thread nD τ).loc main_arg5)
abbrev a6 : S1x8x4096x256.Idx → EReal := m ((c : Thread nD τ).loc main_arg6)
abbrev a7 : S1024x1024.Idx → EReal := m ((c : Thread nD τ).loc main_arg7)
abbrev a8 : S1024x1024.Idx → EReal := m ((c : Thread nD τ).loc main_arg8)
abbrev a9 : S1024x1024.Idx → EReal := m ((c : Thread nD τ).loc main_arg9)
abbrev a10 : S1024.Idx → EReal := m ((c : Thread nD τ).loc main_arg10)
abbrev a11 : S1024x2816.Idx → EReal := m ((c : Thread nD τ).loc main_arg11)
abbrev a12 : S1024x2816.Idx → EReal := m ((c : Thread nD τ).loc main_arg12)
abbrev a13 : S2816x1024.Idx → EReal := m ((c : Thread nD τ).loc main_arg13)
abbrev a14 : S1024.Idx → EReal := m ((c : Thread nD τ).loc main_arg14)
abbrev a15 : S1024x1024.Idx → EReal := m ((c : Thread nD τ).loc main_arg15)
abbrev a16 : S256x1024.Idx → EReal := m ((c : Thread nD τ).loc main_arg16)
abbrev a17 : S1024.Idx → EReal := m ((c : Thread nD τ).loc main_arg17)
abbrev a18 : S1024.Idx → EReal := m ((c : Thread nD τ).loc main_arg18)

theorem iblk0_apply (t : Fin cfg0.N) (r : Fin 512) (d : Fin 1024) (b : Fin 8) (R : Fin 4096) (hb : b.val = t.val / 8) (hR : R.val = t.val % 8 * 512 + r.val) : (iblk m c 0 t (ix3 0 r d) : EReal) = a0 m c (ix3 b R d) := by
  have e : ((View.whole main_arg0).slice (win0_0.rect t)).emb (ix3 0 r d) = ix3 b R d := by
    blk_ext [idx t]
  unfold iblk
  rw [View.read_apply]
  show V m c main_arg0 (((View.whole main_arg0).slice (win0_0.rect t)).emb (ix3 0 r d)) = _
  rw [e]
  entry_read
  try rfl

theorem iblk1_apply (t : Fin cfg0.N) (r : Fin 512) (d : Fin 1024) (b : Fin 8) (R : Fin 4096) (hb : b.val = t.val / 8) (hR : R.val = t.val % 8 * 512 + r.val) : (iblk m c 1 t (ix3 0 r d) : EReal) = a1 m c (ix3 b R d) := by
  have e : ((View.whole main_arg1).slice (win0_1.rect t)).emb (ix3 0 r d) = ix3 b R d := by
    blk_ext [idx t]
  unfold iblk
  rw [View.read_apply]
  show V m c main_arg1 (((View.whole main_arg1).slice (win0_1.rect t)).emb (ix3 0 r d)) = _
  rw [e]
  entry_read
  try rfl

theorem iblk2_apply (t : Fin cfg0.N) (r : Fin 512) (d : Fin 1024) (b : Fin 8) (R : Fin 4096) (hb : b.val = t.val / 8) (hR : R.val = t.val % 8 * 512 + r.val) : (iblk m c 2 t (ix3 0 r d) : EReal) = a2 m c (ix3 b R d) := by
  have e : ((View.whole main_arg2).slice (win0_2.rect t)).emb (ix3 0 r d) = ix3 b R d := by
    blk_ext [idx t]
  unfold iblk
  rw [View.read_apply]
  show V m c main_arg2 (((View.whole main_arg2).slice (win0_2.rect t)).emb (ix3 0 r d)) = _
  rw [e]
  entry_read
  try rfl

theorem iblk3_apply (t : Fin cfg0.N) (r : Fin 512) (d : Fin 1024) (b : Fin 8) (R : Fin 4096) (hb : b.val = t.val / 8) (hR : R.val = t.val % 8 * 512 + r.val) : (iblk m c 3 t (ix3 0 r d) : EReal) = a3 m c (ix3 b R d) := by
  have e : ((View.whole main_arg3).slice (win0_3.rect t)).emb (ix3 0 r d) = ix3 b R d := by
    blk_ext [idx t]
  unfold iblk
  rw [View.read_apply]
  show V m c main_arg3 (((View.whole main_arg3).slice (win0_3.rect t)).emb (ix3 0 r d)) = _
  rw [e]
  entry_read
  try rfl

theorem iblk4_apply (t : Fin cfg0.N) (r : Fin 512) (d : Fin 1024) (b : Fin 8) (R : Fin 4096) (hb : b.val = t.val / 8) (hR : R.val = t.val % 8 * 512 + r.val) : (iblk m c 4 t (ix3 0 r d) : EReal) = a4 m c (ix3 b R d) := by
  have e : ((View.whole main_arg4).slice (win0_4.rect t)).emb (ix3 0 r d) = ix3 b R d := by
    blk_ext [idx t]
  unfold iblk
  rw [View.read_apply]
  show V m c main_arg4 (((View.whole main_arg4).slice (win0_4.rect t)).emb (ix3 0 r d)) = _
  rw [e]
  entry_read
  try rfl

theorem iblk5_apply (t : Fin cfg0.N) (r : Fin 512) (d : Fin 1024) (b : Fin 8) (R : Fin 4096) (hb : b.val = t.val / 8) (hR : R.val = t.val % 8 * 512 + r.val) : (iblk m c 5 t (ix3 0 r d) : EReal) = a5 m c (ix3 b R d) := by
  have e : ((View.whole main_arg5).slice (win0_5.rect t)).emb (ix3 0 r d) = ix3 b R d := by
    blk_ext [idx t]
  unfold iblk
  rw [View.read_apply]
  show V m c main_arg5 (((View.whole main_arg5).slice (win0_5.rect t)).emb (ix3 0 r d)) = _
  rw [e]
  entry_read
  try rfl

theorem iblk6_apply (t : Fin cfg0.N) (r : Fin 512) (d : Fin 256) (b : Fin 8) (R : Fin 4096) (hb : b.val = t.val / 8) (hR : R.val = t.val % 8 * 512 + r.val) : (iblk m c 6 t (ix4 0 0 r d) : EReal) = a6 m c (ix4 0 b R d) := by
  have e : ((View.whole main_arg6).slice (win0_6.rect t)).emb (ix4 0 0 r d) = ix4 0 b R d := by
    blk_ext [idx t]
  unfold iblk
  rw [View.read_apply]
  show V m c main_arg6 (((View.whole main_arg6).slice (win0_6.rect t)).emb (ix4 0 0 r d)) = _
  rw [e]
  entry_read
  try rfl

theorem iblk7_apply (t : Fin cfg0.N) (k : Fin 1024) (f : Fin 1024) : (iblk m c 7 t (ix2 k f) : EReal) = a7 m c (ix2 k f) := by
  have e : ((View.whole main_v0).slice (win0_7.rect t)).emb (ix2 k f) = ix2 k f := by
    blk_ext [idx t]
  unfold iblk
  rw [View.read_apply]
  show V m c main_v0 (((View.whole main_v0).slice (win0_7.rect t)).emb (ix2 k f)) = _
  rw [e]
  entry_read
  pointwise

theorem iblk8_apply (t : Fin cfg0.N) (k : Fin 1024) (f : Fin 1024) : (iblk m c 8 t (ix2 k f) : EReal) = a8 m c (ix2 k f) := by
  have e : ((View.whole main_v1).slice (win0_8.rect t)).emb (ix2 k f) = ix2 k f := by
    blk_ext [idx t]
  unfold iblk
  rw [View.read_apply]
  show V m c main_v1 (((View.whole main_v1).slice (win0_8.rect t)).emb (ix2 k f)) = _
  rw [e]
  entry_read
  pointwise

theorem iblk9_apply (t : Fin cfg0.N) (k : Fin 1024) (f : Fin 1024) : (iblk m c 9 t (ix2 k f) : EReal) = a9 m c (ix2 k f) := by
  have e : ((View.whole main_v2).slice (win0_9.rect t)).emb (ix2 k f) = ix2 k f := by
    blk_ext [idx t]
  unfold iblk
  rw [View.read_apply]
  show V m c main_v2 (((View.whole main_v2).slice (win0_9.rect t)).emb (ix2 k f)) = _
  rw [e]
  entry_read
  pointwise

theorem iblk10_apply (t : Fin cfg0.N) (d : Fin 1024) : (iblk m c 10 t (ix2 0 d) : EReal) = a10 m c (ix1 d) := by
  have e : ((View.whole main_v3).slice (win0_10.rect t)).emb (ix2 0 d) = ix2 0 d := by
    blk_ext [idx t]
  unfold iblk
  rw [View.read_apply]
  show V m c main_v3 (((View.whole main_v3).slice (win0_10.rect t)).emb (ix2 0 d)) = _
  rw [e]
  entry_read
  pointwise

theorem iblk11_apply (t : Fin cfg0.N) (k : Fin 1024) (f : Fin 2816) : (iblk m c 11 t (ix2 k f) : EReal) = a11 m c (ix2 k f) := by
  have e : ((View.whole main_v4).slice (win0_11.rect t)).emb (ix2 k f) = ix2 k f := by
    blk_ext [idx t]
  unfold iblk
  rw [View.read_apply]
  show V m c main_v4 (((View.whole main_v4).slice (win0_11.rect t)).emb (ix2 k f)) = _
  rw [e]
  entry_read
  pointwise

theorem iblk12_apply (t : Fin cfg0.N) (k : Fin 1024) (f : Fin 2816) : (iblk m c 12 t (ix2 k f) : EReal) = a12 m c (ix2 k f) := by
  have e : ((View.whole main_v5).slice (win0_12.rect t)).emb (ix2 k f) = ix2 k f := by
    blk_ext [idx t]
  unfold iblk
  rw [View.read_apply]
  show V m c main_v5 (((View.whole main_v5).slice (win0_12.rect t)).emb (ix2 k f)) = _
  rw [e]
  entry_read
  pointwise

theorem iblk13_apply (t : Fin cfg0.N) (k : Fin 2816) (f : Fin 1024) : (iblk m c 13 t (ix2 k f) : EReal) = a13 m c (ix2 k f) := by
  have e : ((View.whole main_v6).slice (win0_13.rect t)).emb (ix2 k f) = ix2 k f := by
    blk_ext [idx t]
  unfold iblk
  rw [View.read_apply]
  show V m c main_v6 (((View.whole main_v6).slice (win0_13.rect t)).emb (ix2 k f)) = _
  rw [e]
  entry_read
  pointwise

theorem iblk14_apply (t : Fin cfg0.N) (d : Fin 1024) : (iblk m c 14 t (ix2 0 d) : EReal) = a14 m c (ix1 d) := by
  have e : ((View.whole main_v7).slice (win0_14.rect t)).emb (ix2 0 d) = ix2 0 d := by
    blk_ext [idx t]
  unfold iblk
  rw [View.read_apply]
  show V m c main_v7 (((View.whole main_v7).slice (win0_14.rect t)).emb (ix2 0 d)) = _
  rw [e]
  entry_read
  pointwise

theorem iblk15_apply (t : Fin cfg0.N) (k : Fin 1024) (f : Fin 1024) : (iblk m c 15 t (ix2 k f) : EReal) = a15 m c (ix2 k f) := by
  have e : ((View.whole main_v8).slice (win0_15.rect t)).emb (ix2 k f) = ix2 k f := by
    blk_ext [idx t]
  unfold iblk
  rw [View.read_apply]
  show V m c main_v8 (((View.whole main_v8).slice (win0_15.rect t)).emb (ix2 k f)) = _
  rw [e]
  entry_read
  pointwise

theorem iblk16_apply (t : Fin cfg0.N) (k : Fin 256) (f : Fin 1024) : (iblk m c 16 t (ix2 k f) : EReal) = a16 m c (ix2 k f) := by
  have e : ((View.whole main_v9).slice (win0_16.rect t)).emb (ix2 k f) = ix2 k f := by
    blk_ext [idx t]
  unfold iblk
  rw [View.read_apply]
  show V m c main_v9 (((View.whole main_v9).slice (win0_16.rect t)).emb (ix2 k f)) = _
  rw [e]
  entry_read
  pointwise

theorem iblk17_apply (t : Fin cfg0.N) (d : Fin 1024) : (iblk m c 17 t (ix2 0 d) : EReal) = a17 m c (ix1 d) := by
  have e : ((View.whole main_v10).slice (win0_17.rect t)).emb (ix2 0 d) = ix2 0 d := by
    blk_ext [idx t]
  unfold iblk
  rw [View.read_apply]
  show V m c main_v10 (((View.whole main_v10).slice (win0_17.rect t)).emb (ix2 0 d)) = _
  rw [e]
  entry_read
  pointwise

theorem iblk18_apply (t : Fin cfg0.N) (d : Fin 1024) : (iblk m c 18 t (ix2 0 d) : EReal) = a18 m c (ix1 d) := by
  have e : ((View.whole main_v11).slice (win0_18.rect t)).emb (ix2 0 d) = ix2 0 d := by
    blk_ext [idx t]
  unfold iblk
  rw [View.read_apply]
  show V m c main_v11 (((View.whole main_v11).slice (win0_18.rect t)).emb (ix2 0 d)) = _
  rw [e]
  entry_read
  pointwise

/-- One element of the result. -/
def outAt (b : Fin 8) (R : Fin 4096) (i : Fin 1024) : EReal :=
  rms (embed (swi (mixed (fun k => a0 m c (ix3 b R k)) (fun k => a1 m c (ix3 b R k)) (fun k => a2 m c (ix3 b R k)) (fun k => a3 m c (ix3 b R k))
      (fun k => a4 m c (ix3 b R k)) (fun k => a5 m c (ix3 b R k)) (fun k j => a7 m c (ix2 k j)) (fun k j => a8 m c (ix2 k j)) (fun k j => a9 m c (ix2 k j)))
      (fun k => a10 m c (ix1 k)) (fun k f => a11 m c (ix2 k f)) (fun k f => a12 m c (ix2 k f)) (fun f k => a13 m c (ix2 f k)))
    (fun k => a6 m c (ix4 0 b R k)) (fun k => a14 m c (ix1 k)) (fun k j => a15 m c (ix2 k j)) (fun k j => a16 m c (ix2 k j)) (fun k => a17 m c (ix1 k)))
    (fun k => a18 m c (ix1 k)) i

/-- The output block at a point. -/
theorem after_row (t : Fin cfg0.N) (r : Fin 512) (i : Fin 1024) (b : Fin 8) (R : Fin 4096) (hb : b.val = t.val / 8) (hR : R.val = t.val % 8 * 512 + r.val) :
    ((dats m 0 c).after 19 t (ix3 0 r i) : EReal) = outAt m c b R i := by
  rw [after0_19, out_row]
  unfold outAt h2 h1
  simp only [iblk0_apply m c t r _ b R hb hR, iblk1_apply m c t r _ b R hb hR, iblk2_apply m c t r _ b R hb hR, iblk3_apply m c t r _ b R hb hR, iblk4_apply m c t r _ b R hb hR, iblk5_apply m c t r _ b R hb hR, iblk6_apply m c t r _ b R hb hR, iblk7_apply, iblk8_apply, iblk9_apply, iblk10_apply, iblk11_apply, iblk12_apply, iblk13_apply, iblk14_apply, iblk15_apply, iblk16_apply, iblk17_apply, iblk18_apply]

/-- The result array after the run. -/
theorem final : (dats m 0 c).arrAt 19 cfg0.N = fun i : S8x4096x1024.Idx => outAt m c (i 0) (i 1) (i 2) := by
  refine (dats m 0 c).arrAt_eq_of_covers 19 _ (by decide +kernel) fun t hf y => ?_
  obtain ⟨a, r, e, rfl⟩ : ∃ (a : Fin 1) (r : Fin 512) (e : Fin 1024), y = ix3 a r e := ⟨y 0, y 1, y 2, eq_ix3 y⟩
  obtain rfl : a = 0 := Subsingleton.elim _ _
  have ht : t.val < 64 := t.isLt
  have hR : t.val % 8 * 512 + r.val < 4096 := by omega
  have eb : ((View.whole main_v12).slice (win0_19.rect t)).emb (ix3 0 r e) = ix3 (⟨t.val / 8, by omega⟩ : Fin 8) (⟨t.val % 8 * 512 + r.val, hR⟩ : Fin 4096) e := by
    blk_ext [idx t]
  have key := after_row m c t r e ⟨t.val / 8, by omega⟩ ⟨t.val % 8 * 512 + r.val, hR⟩ rfl rfl
  refine Eq.trans ?_ (Eq.trans key ?_)
  · rfl
  · show _ = (fun i : S8x4096x1024.Idx => _) (((View.whole main_v12).slice (win0_19.rect t)).emb (ix3 0 r e))
    rw [eb]
    rfl

end Cert.TailIdeal.Body

end
-- ==== Proof.TailClaim.lean ====
module

public import proofs.«01_k».proof.Defs
public import proofs.«01_k».proof.Proof.TailValue
public import proofs.«01_k».proof.Proof.Gen.TailRefIdeal.Run
public import proofs.«01_k».proof.Proof.Gen.TailRefIdeal.Read
public import Idealize.ShloMosaic.Lib.Claim
public import Idealize.ShloMosaic.Lib.ReduceAll

@[expose] public section

set_option maxRecDepth 16384
set_option maxHeartbeats 1600000

noncomputable section

/-! The reference of the last call, row by row, and the claims about the call. -/

namespace Cert.TailClaims

open Idealize.ShloMosaic Idealize.ShloMosaic.Pointwise Idealize.SL.Sem Cert.Rows

section
open Cert.TailRefIdeal Cert.TailRefIdeal.Read
variable (x0 x1 x2 x3 x4 x5 : S8x4096x1024.Idx → EReal) (x6 : S1x8x4096x256.Idx → EReal) (x7 x8 x9 : S1024x1024.Idx → EReal) (x10 : S1024.Idx → EReal)
  (x11 x12 : S1024x2816.Idx → EReal) (x13 : S2816x1024.Idx → EReal) (x14 : S1024.Idx → EReal) (x15 : S1024x1024.Idx → EReal) (x16 : S256x1024.Idx → EReal)
  (x17 x18 : S1024.Idx → EReal) (b : Fin 8) (r : Fin 4096)

/-- Row `r` of the residual after the mixers. -/
def h1 : Fin 1024 → EReal :=
  mixed (fun k => x0 (ix3 b r k)) (fun k => x1 (ix3 b r k)) (fun k => x2 (ix3 b r k)) (fun k => x3 (ix3 b r k)) (fun k => x4 (ix3 b r k))
    (fun k => x5 (ix3 b r k)) (fun k j => x7 (ix2 k j)) (fun k j => x8 (ix2 k j)) (fun k j => x9 (ix2 k j))

/-- Row `r` of the residual after the feed-forward part. -/
def h2 : Fin 1024 → EReal :=
  swi (h1 x0 x1 x2 x3 x4 x5 x7 x8 x9 b r) (fun k => x10 (ix1 k)) (fun k f => x11 (ix2 k f)) (fun k f => x12 (ix2 k f)) (fun f k => x13 (ix2 f k))

/-- Row `r` of the residual after the embedding. -/
def h3 : Fin 1024 → EReal :=
  embed (h2 x0 x1 x2 x3 x4 x5 x7 x8 x9 x10 x11 x12 x13 b r) (fun k => x6 (ix4 0 b r k)) (fun k => x14 (ix1 k)) (fun k j => x15 (ix2 k j))
    (fun k j => x16 (ix2 k j)) (fun k => x17 (ix1 k))

theorem gated (i : Fin 1024) : (val_main_v14 (F := Ideal) x2 (ix3 b r i) : EReal) = gelu (x2 (ix3 b r i)) := by
  unfold val_main_v14 val_main_v13 val_main_v12 val_main_cst_2 val_main_v11 val_main_v10 val_main_cst_1 val_main_v9 val_main_v8 val_main_v7 val_main_cst_0 val_main_v6 val_main_v5 val_main_v4 val_main_cst val_main_v3 val_main_v2 val_main_v1
  pointwise
  rw [mul_comm (x2 (ix3 b r i) * x2 (ix3 b r i))]
  rfl

theorem mixed_row (i : Fin 1024) : (val_main_v37 (F := Ideal) x0 x1 x2 x3 x4 x5 x7 x8 x9 (ix3 b r i) : EReal) = h1 x0 x1 x2 x3 x4 x5 x7 x8 x9 b r i := by
  unfold val_main_v37 val_main_v36 val_main_v35 val_main_v34 val_main_v33 val_main_v32 val_main_cst_6 val_main_v31 val_main_v30 val_main_cst_5 val_main_v29 val_main_v28 val_main_v27 val_main_v26 val_main_v25 val_main_v24 val_main_cst_4 val_main_v23 val_main_v22 val_main_cst_3 val_main_v21 val_main_v20 val_main_v19 val_main_v18 val_main_v17 val_main_v16 val_main_v15 val_main_v0
  pointwise
  simp only [gated]
  rfl

theorem normed (i : Fin 1024) : (val_main_v50 (F := Ideal) x0 x1 x2 x3 x4 x5 x7 x8 x9 x10 (ix3 b r i) : EReal) = rms (h1 x0 x1 x2 x3 x4 x5 x7 x8 x9 b r) (fun k => x10 (ix1 k)) i := by
  unfold val_main_v50 val_main_v49 val_main_v48 val_main_v47 val_main_v46 val_main_v45 val_main_v44 val_main_v43 val_main_cst_9 val_main_v42 val_main_v41 val_main_cst_8 val_main_v40 val_main_v39 val_main_cst_7 val_main_v38
  pointwise
  simp only [mixed_row]
  rfl

theorem hidden (f : Fin 2816) : (val_main_v54 (F := Ideal) x0 x1 x2 x3 x4 x5 x7 x8 x9 x10 x11 x12 (ix3 b r f) : EReal) = hid (rms (h1 x0 x1 x2 x3 x4 x5 x7 x8 x9 b r) (fun k => x10 (ix1 k))) (fun k f => x11 (ix2 k f)) (fun k f => x12 (ix2 k f)) f := by
  unfold val_main_v54 val_main_v53 val_main_v52 val_main_call0_v5 val_main_call0_v4 val_main_call0_cst_0 val_main_call0_v3 val_main_call0_v2 val_main_call0_cst val_main_call0_v1 val_main_call0_v0 val_main_v51
  pointwise
  simp only [normed]
  rfl

theorem ffn_row (i : Fin 1024) : (val_main_v58 (F := Ideal) x0 x1 x2 x3 x4 x5 x7 x8 x9 x10 x11 x12 x13 (ix3 b r i) : EReal) = h2 x0 x1 x2 x3 x4 x5 x7 x8 x9 x10 x11 x12 x13 b r i := by
  unfold val_main_v58 val_main_v57 val_main_v56 val_main_cst_10 val_main_v55
  pointwise
  simp only [mixed_row, hidden]
  rfl

theorem gate_row (i : Fin 1024) : (val_main_v78 (F := Ideal) x0 x1 x2 x3 x4 x5 x7 x8 x9 x10 x11 x12 x13 x14 x15 (ix3 b r i) : EReal) = Ideal.logistic (mm (rms (h2 x0 x1 x2 x3 x4 x5 x7 x8 x9 x10 x11 x12 x13 b r) (fun k => x14 (ix1 k))) (fun k j => x15 (ix2 k j)) i) := by
  unfold val_main_v78 val_main_v77 val_main_cst_15 val_main_v76 val_main_v75 val_main_cst_14 val_main_v74 val_main_v73 val_main_v72 val_main_v71 val_main_v70 val_main_v69 val_main_v68 val_main_v67 val_main_v66 val_main_v65 val_main_v64 val_main_cst_13 val_main_v63 val_main_v62 val_main_cst_12 val_main_v61 val_main_v60 val_main_cst_11 val_main_v59
  pointwise
  simp only [ffn_row]
  rfl

theorem proj_row (i : Fin 1024) : (val_main_v93 (F := Ideal) x6 x16 x17 (ix3 b r i) : EReal) = rms (mm (fun k => x6 (ix4 0 b r k)) (fun k j => x16 (ix2 k j))) (fun k => x17 (ix1 k)) i := by
  unfold val_main_v93 val_main_v92 val_main_v91 val_main_v90 val_main_v89 val_main_v88 val_main_v87 val_main_v86 val_main_cst_18 val_main_v85 val_main_v84 val_main_cst_17 val_main_v83 val_main_v82 val_main_cst_16 val_main_v81 val_main_v80 val_main_v79
  pointwise
  rfl

theorem embed_row (i : Fin 1024) : (val_main_v95 (F := Ideal) x0 x1 x2 x3 x4 x5 x6 x7 x8 x9 x10 x11 x12 x13 x14 x15 x16 x17 (ix3 b r i) : EReal) = h3 x0 x1 x2 x3 x4 x5 x6 x7 x8 x9 x10 x11 x12 x13 x14 x15 x16 x17 b r i := by
  unfold val_main_v95 val_main_v94
  pointwise
  simp only [ffn_row, gate_row, proj_row]
  rfl

theorem result (i : Fin 1024) : (val_main_v108 (F := Ideal) x0 x1 x2 x3 x4 x5 x6 x7 x8 x9 x10 x11 x12 x13 x14 x15 x16 x17 x18 (ix3 b r i) : EReal) = rms (h3 x0 x1 x2 x3 x4 x5 x6 x7 x8 x9 x10 x11 x12 x13 x14 x15 x16 x17 b r) (fun k => x18 (ix1 k)) i := by
  unfold val_main_v108 val_main_v107 val_main_v106 val_main_v105 val_main_v104 val_main_v103 val_main_v102 val_main_v101 val_main_cst_21 val_main_v100 val_main_v99 val_main_cst_20 val_main_v98 val_main_v97 val_main_cst_19 val_main_v96
  pointwise
  simp only [embed_row]
  rfl

end

/-- The two programs return the same array. -/
theorem tail : Cert.algebraic_TailIdeal_TailRefIdeal := by
  pair_intro
  · run_from Cert.TailIdeal.Value.run_blocks m g
  · run_from Cert.TailRefIdeal.Value.run m' g'
    refine Eq.trans ?_ (Cert.TailIdeal.Body.final m c).symm
    obtain ⟨h0, h1, h2, h3, h4, h5, h6, h7, h8, h9, h10, h11, h12, h13, h14, h15, h16, h17, h18⟩ := hagree c
    rw [← h18]
    refine (Cert.TailRefIdeal.Read.val_main_v108_eq (F := Ideal) (StableHlo.launchContents m' c)).trans ?_
    change Cert.TailRefIdeal.Read.val_main_v108 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) (m' ((c.tc : Thread Cert.TailRefIdeal.nD Cert.TailRefIdeal.τ).loc Cert.TailRefIdeal.main_arg11)) (m' ((c.tc : Thread Cert.TailRefIdeal.nD Cert.TailRefIdeal.τ).loc Cert.TailRefIdeal.main_arg12)) (m' ((c.tc : Thread Cert.TailRefIdeal.nD Cert.TailRefIdeal.τ).loc Cert.TailRefIdeal.main_arg13)) (m' ((c.tc : Thread Cert.TailRefIdeal.nD Cert.TailRefIdeal.τ).loc Cert.TailRefIdeal.main_arg14)) (m' ((c.tc : Thread Cert.TailRefIdeal.nD Cert.TailRefIdeal.τ).loc Cert.TailRefIdeal.main_arg15)) (m' ((c.tc : Thread Cert.TailRefIdeal.nD Cert.TailRefIdeal.τ).loc Cert.TailRefIdeal.main_arg16)) (m' ((c.tc : Thread Cert.TailRefIdeal.nD Cert.TailRefIdeal.τ).loc Cert.TailRefIdeal.main_arg17)) (m' ((c.tc : Thread Cert.TailRefIdeal.nD Cert.TailRefIdeal.τ).loc Cert.TailRefIdeal.main_arg18)) = _
    rw [h0, h1, h2, h3, h4, h5, h6, h7, h8, h9, h10, h11, h12, h13, h14, h15, h16, h17, h18]
    funext i
    obtain ⟨b, r, e, rfl⟩ : ∃ (b : Fin 8) (r : Fin 4096) (e : Fin 1024), i = ix3 b r e := ⟨i 0, i 1, i 2, eq_ix3 i⟩
    exact result _ _ _ _ _ _ _ _ _ _ _ _ _ _ _ _ _ _ _ b r e

end Cert.TailClaims

end
-- ==== Proof.InprojBody.lean ====
module

public import proofs.«01_k».proof.Proof.Gen.Inproj.Frame
public import proofs.«01_k».proof.Proof.Gen.Inproj.Loops
public import proofs.«01_k».proof.Proof.Gen.Inproj.Launch
public import proofs.«01_k».proof.Proof.Gen.Inproj.Skeleton
public import proofs.«01_k».proof.Proof.Gen.Inproj.Points
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Inproj.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Inproj.Gen

variable {F : FTy → Type} [FloatOps F]

local notation "𝕄" => MT nD τ sig Unit (Elt F) ℕ (UR sig nD τ) ℕ

set_option maxHeartbeats 0 in
/-- One point of the grid: it leaves its inputs as they are. -/
theorem run (c : Dev nD) (i : grid0.Coords) (arg1 : Memref sig .tc .vmem S8x64x1024 .f32) (harg1 : arg1.IsWhole) (arg2 : Memref sig .tc .vmem S8x8x1024 .f32) (harg2 : arg2.IsWhole) (arg3 : Memref sig .tc .vmem S8x8x1024 .f32) (harg3 : arg3.IsWhole) (arg4 : Memref sig .tc .vmem S1x128x128 .f32) (harg4 : arg4.IsWhole) (arg5 : Memref sig .tc .vmem S1x1024 .f32) (harg5 : arg5.IsWhole) (arg6 : Memref sig .tc .vmem S1024x2688 .bf16) (harg6 : arg6.IsWhole) (arg7 : Memref sig .tc .vmem S1024x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x384 .f32) (harg10 : arg10.IsWhole) (arg11 : Memref sig .tc .vmem S384x2048 .bf16) (harg11 : arg11.IsWhole) (arg12 : Memref sig .tc .vmem S1x256 .f32) (harg12 : arg12.IsWhole) (arg13 : Memref sig .tc .vmem S256x2048 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S4x1024 .f32) (harg16 : arg16.IsWhole) (arg17 : Memref sig .tc .vmem S1x1024 .f32) (harg17 : arg17.IsWhole) (arg18 : Memref sig .tc .vmem S8x128x256 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x64x1024 .bf16) (harg22 : arg22.IsWhole) (arg23 : Memref sig .tc .vmem S8x64x1024 .bf16) (harg23 : arg23.IsWhole) (arg24 : Memref sig .tc .vmem S8x64x1024 .bf16) (harg24 : arg24.IsWhole) (arg25 : Memref sig .tc .vmem S8x8x64x256 .bf16) (harg25 : arg25.IsWhole) (arg26 : Memref sig .tc .vmem S8x8x64x256 .bf16) (harg26 : arg26.IsWhole) (arg27 : Memref sig .tc .vmem S8x8x64x128 .bf16) (harg27 : arg27.IsWhole) (arg28 : Memref sig .tc .vmem S8x512x128 .bf16) (harg28 : arg28.IsWhole) (arg29 : Memref sig .tc .vmem S8x512x128 .bf16) (harg29 : arg29.IsWhole) (arg30 : Memref sig .tc .vmem S8x640x128 .f32) (harg30 : arg30.IsWhole) (arg31 : Memref sig .tc .vmem S8x512x128 .f32) (harg31 : arg31.IsWhole) (arg32 : Memref sig .tc .vmem S8x512x128 .f32) (harg32 : arg32.IsWhole) (arg33 : Memref sig .tc .vmem S8x8x128 .f32) (harg33 : arg33.IsWhole) (arg34 : Memref sig .tc .vmem S8x512x128 .f32) (harg34 : arg34.IsWhole)
    (x1 : Vec F S8x64x1024 .f32) (x2 : Vec F S8x8x1024 .f32) (x3 : Vec F S8x8x1024 .f32) (x4 : Vec F S1x128x128 .f32) (x5 : Vec F S1x1024 .f32) (x6 : Vec F S1024x2688 .bf16) (x7 : Vec F S1024x128 .bf16) (x8 : Vec F S1024x1024 .bf16) (x9 : Vec F S1024x1024 .bf16) (x10 : Vec F S1x384 .f32) (x11 : Vec F S384x2048 .bf16) (x12 : Vec F S1x256 .f32) (x13 : Vec F S256x2048 .bf16) (x14 : Vec F S1x128 .f32) (x15 : Vec F S1x128 .f32) (x16 : Vec F S4x1024 .f32) (x17 : Vec F S1x1024 .f32) (x18 : Vec F S8x128x256 .bf16) (x19 : Vec F S1x1024 .f32) (x20 : Vec F S1x1024 .f32) (x21 : Vec F S1x1024 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; iexists _; isplitr
    swap; · iexact H22
    ipureintro; rfl
  isplitl [H23]
  · iexists _; iexists _; isplitr
    swap; · iexact H23
    ipureintro; rfl
  isplitl [H24]
  · iexists _; iexists _; isplitr
    swap; · iexact H24
    ipureintro; rfl
  isplitl [H25]
  · iexists _; iexists _; isplitr
    swap; · iexact H25
    ipureintro; rfl
  isplitl [H26]
  · iexists _; iexists _; isplitr
    swap; · iexact H26
    ipureintro; rfl
  isplitl [H27]
  · iexists _; iexists _; isplitr
    swap; · iexact H27
    ipureintro; rfl
  isplitl [H28]
  · iexists _; iexists _; isplitr
    swap; · iexact H28
    ipureintro; rfl
  isplitl [H29]
  · iexists _; iexists _; isplitr
    swap; · iexact H29
    ipureintro; rfl
  isplitl [H30]
  · iexists _; iexists _; isplitr
    swap; · iexact H30
    ipureintro; rfl
  isplitl [H31]
  · iexists _; iexists _; isplitr
    swap; · iexact H31
    ipureintro; rfl
  isplitl [H32]
  · iexists _; iexists _; isplitr
    swap; · iexact H32
    ipureintro; rfl
  isplitl [H33]
  · iexists _; iexists _; isplitr
    swap; · iexact H33
    ipureintro; rfl
  iexists _; iexists _; isplitr
  swap; · iexact H34
  ipureintro; rfl

end Cert.Inproj.Body

end
-- ==== Proof.InprojIdealBody.lean ====
module

public import proofs.«01_k».proof.Proof.Gen.InprojIdeal.Frame
public import proofs.«01_k».proof.Proof.Gen.InprojIdeal.Loops
public import proofs.«01_k».proof.Proof.Gen.InprojIdeal.Launch
public import proofs.«01_k».proof.Proof.Gen.InprojIdeal.Skeleton
public import proofs.«01_k».proof.Proof.Gen.InprojIdeal.Points
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.InprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InprojIdeal.Gen

variable {F : FTy → Type} [FloatOps F]

local notation "𝕄" => MT nD τ sig Unit (Elt F) ℕ (UR sig nD τ) ℕ

/-- The left 512 lanes of an output block. -/
abbrev rl : Rect S8x64x1024 := Rect.unit ![0, 0, 0] S8x64x512.size inb_S8x64x1024_S8x64x512_0_0_0
/-- The right 512 lanes of an output block. -/
abbrev rr : Rect S8x64x1024 := Rect.unit ![0, 0, 512] S8x64x512.size inb_S8x64x1024_S8x64x512_0_0_512
/-- The left 512 columns of a gate's weights. -/
abbrev rgl : Rect S1024x1024 := Rect.unit ![0, 0] S1024x512.size inb_S1024x1024_S1024x512_0_0
/-- The right 512 columns of a gate's weights. -/
abbrev rgr : Rect S1024x1024 := Rect.unit ![0, 512] S1024x512.size inb_S1024x1024_S1024x512_0_512
/-- The columns of the first weights that give the left lanes of the recurrence's gate. -/
abbrev rzl : Rect S1024x2688 := Rect.unit ![0, 1024] S1024x512.size inb_S1024x2688_S1024x512_0_1024
/-- The columns that give its right lanes. -/
abbrev rzr : Rect S1024x2688 := Rect.unit ![0, 1536] S1024x512.size inb_S1024x2688_S1024x512_0_1536
/-- The columns that give the compressed keys and values. -/
abbrev rkv : Rect S1024x2688 := Rect.unit ![0, 2432] S1024x256.size inb_S1024x2688_S1024x256_0_2432
/-- One head of the block of values. -/
abbrev rh0 : Rect S8x8x64x128 := Rect.unit ![0, 0, 0, 0] S8x1x64x128.size inb_S8x8x64x128_S8x1x64x128_0_0_0_0
abbrev rh1 : Rect S8x8x64x128 := Rect.unit ![0, 1, 0, 0] S8x1x64x128.size inb_S8x8x64x128_S8x1x64x128_0_1_0_0
abbrev rh2 : Rect S8x8x64x128 := Rect.unit ![0, 2, 0, 0] S8x1x64x128.size inb_S8x8x64x128_S8x1x64x128_0_2_0_0
abbrev rh3 : Rect S8x8x64x128 := Rect.unit ![0, 3, 0, 0] S8x1x64x128.size inb_S8x8x64x128_S8x1x64x128_0_3_0_0
abbrev rh4 : Rect S8x8x64x128 := Rect.unit ![0, 4, 0, 0] S8x1x64x128.size inb_S8x8x64x128_S8x1x64x128_0_4_0_0
abbrev rh5 : Rect S8x8x64x128 := Rect.unit ![0, 5, 0, 0] S8x1x64x128.size inb_S8x8x64x128_S8x1x64x128_0_5_0_0
abbrev rh6 : Rect S8x8x64x128 := Rect.unit ![0, 6, 0, 0] S8x1x64x128.size inb_S8x8x64x128_S8x1x64x128_0_6_0_0
abbrev rh7 : Rect S8x8x64x128 := Rect.unit ![0, 7, 0, 0] S8x1x64x128.size inb_S8x8x64x128_S8x1x64x128_0_7_0_0

/-- A block of the recurrence's gate. -/
def zgBlk (x1 : Vec F S8x64x1024 .f32) (x5 : Vec F S1x1024 .f32) (x6 : Vec F S1024x2688 .bf16) : Vec F S8x64x1024 .bf16 :=
  View.canon [⟨rr, k0_pay257 (k0_pay7 x1 x5) (View.ld x6 rzr)⟩, ⟨rl, k0_pay245 (k0_pay7 x1 x5) (View.ld x6 rzl)⟩]

/-- A block of one of the two mixers' gates. -/
def gateBlk (x1 : Vec F S8x64x1024 .f32) (x5 : Vec F S1x1024 .f32) (w : Vec F S1024x1024 .bf16) : Vec F S8x64x1024 .bf16 :=
  View.canon [⟨rr, k0_pay275 (k0_pay7 x1 x5) (View.ld w rgr)⟩, ⟨rl, k0_pay266 (k0_pay7 x1 x5) (View.ld w rgl)⟩]

/-- The keys and values of the block's rows, before they are dealt to the heads. -/
def kv (x1 : Vec F S8x64x1024 .f32) (x5 : Vec F S1x1024 .f32) (x6 : Vec F S1024x2688 .bf16) (x12 : Vec F S1x256 .f32) (x13 : Vec F S256x2048 .bf16) : Vec F S512x2048 .f32 :=
  k0_pay366 (k0_pay7 x1 x5) (View.ld x6 rkv) x12 x13

/-- A block of the attention's values, head by head. -/
def vBlk (x1 : Vec F S8x64x1024 .f32) (x5 : Vec F S1x1024 .f32) (x6 : Vec F S1024x2688 .bf16) (x12 : Vec F S1x256 .f32) (x13 : Vec F S256x2048 .bf16) : Vec F S8x8x64x128 .bf16 :=
  View.canon [⟨rh7, k0_pay2 (kv x1 x5 x6 x12 x13)⟩, ⟨rh6, k0_pay389 (kv x1 x5 x6 x12 x13)⟩, ⟨rh5, k0_pay386 (kv x1 x5 x6 x12 x13)⟩, ⟨rh4, k0_pay383 (kv x1 x5 x6 x12 x13)⟩,
    ⟨rh3, k0_pay380 (kv x1 x5 x6 x12 x13)⟩, ⟨rh2, k0_pay377 (kv x1 x5 x6 x12 x13)⟩, ⟨rh1, k0_pay374 (kv x1 x5 x6 x12 x13)⟩, ⟨rh0, k0_pay371 (kv x1 x5 x6 x12 x13)⟩]

/-- Two stores into the halves of an output block cover it. -/
theorem halves_cover (wr wl : Vec F S8x64x512 .bf16) (y : S8x64x1024.Idx) :
    ∃ pc ∈ ([⟨rr, wr⟩, ⟨rl, wl⟩] : List (View.Piece (Elt F) S8x64x1024 .bf16)), y ∈ pc.1.set :=
  View.cover_of_tiledL ([⟨rr, wr⟩, ⟨rl, wl⟩] : List (View.Piece (Elt F) S8x64x1024 .bf16)) S8x64x512.size (by sl_kernel_rfl) y

/-- What the two halves read back as. -/
theorem read_halves {κ : Kind} {sp : Space} (v : View sig κ sp S8x64x1024 .bf16) (f : v.ty.Contents (Elt F)) (wr wl : Vec F S8x64x512 .bf16) :
    v.read (Elt F) (v.writes (Elt F) f [⟨rr, wr⟩, ⟨rl, wl⟩]) = View.canon [⟨rr, wr⟩, ⟨rl, wl⟩] := by
  funext y
  exact View.read_writes_apply_eq_canon v f y _ (halves_cover wr wl y)

/-- Eight stores of one head each cover the block of values. -/
theorem heads_cover (w7 w6 w5 w4 w3 w2 w1 w0 : Vec F S8x1x64x128 .bf16) (y : S8x8x64x128.Idx) :
    ∃ pc ∈ ([⟨rh7, w7⟩, ⟨rh6, w6⟩, ⟨rh5, w5⟩, ⟨rh4, w4⟩, ⟨rh3, w3⟩, ⟨rh2, w2⟩, ⟨rh1, w1⟩, ⟨rh0, w0⟩] : List (View.Piece (Elt F) S8x8x64x128 .bf16)), y ∈ pc.1.set :=
  View.cover_of_tiledL ([⟨rh7, w7⟩, ⟨rh6, w6⟩, ⟨rh5, w5⟩, ⟨rh4, w4⟩, ⟨rh3, w3⟩, ⟨rh2, w2⟩, ⟨rh1, w1⟩, ⟨rh0, w0⟩] : List (View.Piece (Elt F) S8x8x64x128 .bf16)) S8x1x64x128.size (by sl_kernel_rfl) y

/-- What the eight heads read back as. -/
theorem read_heads {κ : Kind} {sp : Space} (v : View sig κ sp S8x8x64x128 .bf16) (f : v.ty.Contents (Elt F)) (w7 w6 w5 w4 w3 w2 w1 w0 : Vec F S8x1x64x128 .bf16) :
    v.read (Elt F) (v.writes (Elt F) f [⟨rh7, w7⟩, ⟨rh6, w6⟩, ⟨rh5, w5⟩, ⟨rh4, w4⟩, ⟨rh3, w3⟩, ⟨rh2, w2⟩, ⟨rh1, w1⟩, ⟨rh0, w0⟩])
      = View.canon [⟨rh7, w7⟩, ⟨rh6, w6⟩, ⟨rh5, w5⟩, ⟨rh4, w4⟩, ⟨rh3, w3⟩, ⟨rh2, w2⟩, ⟨rh1, w1⟩, ⟨rh0, w0⟩] := by
  funext y
  exact View.read_writes_apply_eq_canon v f y _ (heads_cover w7 w6 w5 w4 w3 w2 w1 w0 y)

/-- A load of a whole staged block is the block. -/
theorem load_whole {κ : Kind} {sp : Space} {s : Shape} {e : EltTy} {m : Memref sig κ sp s e} (h : m.IsWhole) (x : Vec F s e)
    {off : Fin s.rank → ℕ} (inb : ∀ a, off a + s.size a ≤ s.size a) :
    View.readAt (Elt F) m.view (Rect.unit off s.size inb).toLoadRect (h.unread x) = x :=
  (View.readAt_full _ _ inb).trans (h.read_unread x)

/-- A load of part of a staged block is that part of it. -/
theorem load_part {κ : Kind} {sp : Space} {s : Shape} {e : EltTy} {m : Memref sig κ sp s e} (h : m.IsWhole) (x : Vec F s e) (r : Rect s) :
    View.readAt (Elt F) m.view r.toLoadRect (h.unread x) = View.ld x r :=
  funext fun y => h.readAt_unread x _ y

section
variable {κ : Kind} {sp : Space} {m1 : Memref sig .tc .vmem S8x64x1024 .f32} (h1 : m1.IsWhole) {m5 : Memref sig .tc .vmem S1x1024 .f32} (h5 : m5.IsWhole)
  {m6 : Memref sig .tc .vmem S1024x2688 .bf16} (h6 : m6.IsWhole) {mg : Memref sig .tc .vmem S1024x1024 .bf16} (hg : mg.IsWhole)
  {m12 : Memref sig .tc .vmem S1x256 .f32} (h12 : m12.IsWhole) {m13 : Memref sig .tc .vmem S256x2048 .bf16} (h13 : m13.IsWhole)
  (x1 : Vec F S8x64x1024 .f32) (x5 : Vec F S1x1024 .f32) (x6 : Vec F S1024x2688 .bf16) (w : Vec F S1024x1024 .bf16) (x12 : Vec F S1x256 .f32) (x13 : Vec F S256x2048 .bf16)

/-- The normed rows, from the staged blocks. -/
def uOf : Vec F S512x1024 .bf16 :=
  k0_pay7 (View.readAt (Elt F) m1.view (Rect.unit ![0, 0, 0] S8x64x1024.size inb_S8x64x1024_S8x64x1024_0_0_0).toLoadRect (h1.unread x1))
    (View.readAt (Elt F) m5.view (Rect.unit ![0, 0] S1x1024.size inb_S1x1024_S1x1024_0_0).toLoadRect (h5.unread x5))

theorem uOf_eq : uOf h1 h5 x1 x5 = k0_pay7 x1 x5 := congrArg₂ k0_pay7 (load_whole h1 x1 _) (load_whole h5 x5 _)

/-- The recurrence's gate, as its two stores leave it. -/
theorem zg_read (v : View sig κ sp S8x64x1024 .bf16) (f : v.ty.Contents (Elt F)) :
    v.read (Elt F) (v.writes (Elt F) f [⟨rr, k0_pay257 (uOf h1 h5 x1 x5) (View.readAt (Elt F) m6.view rzr.toLoadRect (h6.unread x6))⟩,
      ⟨rl, k0_pay245 (uOf h1 h5 x1 x5) (View.readAt (Elt F) m6.view rzl.toLoadRect (h6.unread x6))⟩]) = zgBlk x1 x5 x6 := by
  rw [read_halves, uOf_eq, load_part, load_part]; rfl

/-- A mixer's gate, as its two stores leave it. -/
theorem gate_read (v : View sig κ sp S8x64x1024 .bf16) (f : v.ty.Contents (Elt F)) :
    v.read (Elt F) (v.writes (Elt F) f [⟨rr, k0_pay275 (uOf h1 h5 x1 x5) (View.readAt (Elt F) mg.view rgr.toLoadRect (hg.unread w))⟩,
      ⟨rl, k0_pay266 (uOf h1 h5 x1 x5) (View.readAt (Elt F) mg.view rgl.toLoadRect (hg.unread w))⟩]) = gateBlk x1 x5 w := by
  rw [read_halves, uOf_eq, load_part, load_part]; rfl

/-- The keys and values, from the staged blocks. -/
def kvOf : Vec F S512x2048 .f32 :=
  k0_pay366 (uOf h1 h5 x1 x5) (View.readAt (Elt F) m6.view rkv.toLoadRect (h6.unread x6))
    (View.readAt (Elt F) m12.view (Rect.unit ![0, 0] S1x256.size inb_S1x256_S1x256_0_0).toLoadRect (h12.unread x12))
    (View.readAt (Elt F) m13.view (Rect.unit ![0, 0] S256x2048.size inb_S256x2048_S256x2048_0_0).toLoadRect (h13.unread x13))

theorem kvOf_eq : kvOf h1 h5 h6 h12 h13 x1 x5 x6 x12 x13 = kv x1 x5 x6 x12 x13 := by
  unfold kvOf kv
  rw [uOf_eq, load_part, load_whole, load_whole]

/-- The values, as the eight stores leave them. -/
theorem v_read (v : View sig κ sp S8x8x64x128 .bf16) (f : v.ty.Contents (Elt F)) (z : Vec F S512x2048 .f32)
    (hz : z = kvOf h1 h5 h6 h12 h13 x1 x5 x6 x12 x13) :
    v.read (Elt F) (v.writes (Elt F) f [⟨rh7, k0_pay2 z⟩, ⟨rh6, k0_pay389 z⟩, ⟨rh5, k0_pay386 z⟩, ⟨rh4, k0_pay383 z⟩, ⟨rh3, k0_pay380 z⟩,
      ⟨rh2, k0_pay377 z⟩, ⟨rh1, k0_pay374 z⟩, ⟨rh0, k0_pay371 z⟩]) = vBlk x1 x5 x6 x12 x13 := by
  rw [read_heads, hz, kvOf_eq]; rfl
end

set_option maxHeartbeats 0 in
/-- One point of the grid: it leaves its inputs as they are, and in four of its output blocks the projections. -/
theorem run (c : Dev nD) (i : grid0.Coords) (arg1 : Memref sig .tc .vmem S8x64x1024 .f32) (harg1 : arg1.IsWhole) (arg2 : Memref sig .tc .vmem S8x8x1024 .f32) (harg2 : arg2.IsWhole) (arg3 : Memref sig .tc .vmem S8x8x1024 .f32) (harg3 : arg3.IsWhole) (arg4 : Memref sig .tc .vmem S1x128x128 .f32) (harg4 : arg4.IsWhole) (arg5 : Memref sig .tc .vmem S1x1024 .f32) (harg5 : arg5.IsWhole) (arg6 : Memref sig .tc .vmem S1024x2688 .bf16) (harg6 : arg6.IsWhole) (arg7 : Memref sig .tc .vmem S1024x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x384 .f32) (harg10 : arg10.IsWhole) (arg11 : Memref sig .tc .vmem S384x2048 .bf16) (harg11 : arg11.IsWhole) (arg12 : Memref sig .tc .vmem S1x256 .f32) (harg12 : arg12.IsWhole) (arg13 : Memref sig .tc .vmem S256x2048 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S4x1024 .f32) (harg16 : arg16.IsWhole) (arg17 : Memref sig .tc .vmem S1x1024 .f32) (harg17 : arg17.IsWhole) (arg18 : Memref sig .tc .vmem S8x128x256 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x64x1024 .bf16) (harg22 : arg22.IsWhole) (arg23 : Memref sig .tc .vmem S8x64x1024 .bf16) (harg23 : arg23.IsWhole) (arg24 : Memref sig .tc .vmem S8x64x1024 .bf16) (harg24 : arg24.IsWhole) (arg25 : Memref sig .tc .vmem S8x8x64x256 .bf16) (harg25 : arg25.IsWhole) (arg26 : Memref sig .tc .vmem S8x8x64x256 .bf16) (harg26 : arg26.IsWhole) (arg27 : Memref sig .tc .vmem S8x8x64x128 .bf16) (harg27 : arg27.IsWhole) (arg28 : Memref sig .tc .vmem S8x512x128 .bf16) (harg28 : arg28.IsWhole) (arg29 : Memref sig .tc .vmem S8x512x128 .bf16) (harg29 : arg29.IsWhole) (arg30 : Memref sig .tc .vmem S8x640x128 .f32) (harg30 : arg30.IsWhole) (arg31 : Memref sig .tc .vmem S8x512x128 .f32) (harg31 : arg31.IsWhole) (arg32 : Memref sig .tc .vmem S8x512x128 .f32) (harg32 : arg32.IsWhole) (arg33 : Memref sig .tc .vmem S8x8x128 .f32) (harg33 : arg33.IsWhole) (arg34 : Memref sig .tc .vmem S8x512x128 .f32) (harg34 : arg34.IsWhole)
    (x1 : Vec F S8x64x1024 .f32) (x2 : Vec F S8x8x1024 .f32) (x3 : Vec F S8x8x1024 .f32) (x4 : Vec F S1x128x128 .f32) (x5 : Vec F S1x1024 .f32) (x6 : Vec F S1024x2688 .bf16) (x7 : Vec F S1024x128 .bf16) (x8 : Vec F S1024x1024 .bf16) (x9 : Vec F S1024x1024 .bf16) (x10 : Vec F S1x384 .f32) (x11 : Vec F S384x2048 .bf16) (x12 : Vec F S1x256 .f32) (x13 : Vec F S256x2048 .bf16) (x14 : Vec F S1x128 .f32) (x15 : Vec F S1x128 .f32) (x16 : Vec F S4x1024 .f32) (x17 : Vec F S1x1024 .f32) (x18 : Vec F S8x128x256 .bf16) (x19 : Vec F S1x1024 .f32) (x20 : Vec F S1x1024 .f32) (x21 : Vec F S1x1024 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare (zgBlk x1 x5 x6) ∗ owns (c : Thread nD τ) arg23 fullShare (gateBlk x1 x5 x8) ∗ owns (c : Thread nD τ) arg24 fullShare (gateBlk x1 x5 x9) ∗ (∃ d, owns (c : Thread nD τ) arg25 fullShare d) ∗ (∃ d, owns (c : Thread nD τ) arg26 fullShare d) ∗ owns (c : Thread nD τ) arg27 fullShare (vBlk x1 x5 x6 x12 x13) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr
    swap; · iexact H22
    ipureintro; exact zg_read harg1 harg5 harg6 x1 x5 x6 _ _
  isplitl [H23]
  · iexists _; isplitr
    swap; · iexact H23
    ipureintro; exact gate_read harg1 harg5 harg8 x1 x5 x8 _ _
  isplitl [H24]
  · iexists _; isplitr
    swap; · iexact H24
    ipureintro; exact gate_read harg1 harg5 harg9 x1 x5 x9 _ _
  isplitl [H25]
  · iexists _; iexists _; isplitr
    swap; · iexact H25
    ipureintro; rfl
  isplitl [H26]
  · iexists _; iexists _; isplitr
    swap; · iexact H26
    ipureintro; rfl
  isplitl [H27]
  · iexists _; isplitr
    swap; · iexact H27
    ipureintro; exact v_read harg1 harg5 harg6 harg12 harg13 x1 x5 x6 x12 x13 _ _ _ rfl
  isplitl [H28]
  · iexists _; iexists _; isplitr
    swap; · iexact H28
    ipureintro; rfl
  isplitl [H29]
  · iexists _; iexists _; isplitr
    swap; · iexact H29
    ipureintro; rfl
  isplitl [H30]
  · iexists _; iexists _; isplitr
    swap; · iexact H30
    ipureintro; rfl
  isplitl [H31]
  · iexists _; iexists _; isplitr
    swap; · iexact H31
    ipureintro; rfl
  isplitl [H32]
  · iexists _; iexists _; isplitr
    swap; · iexact H32
    ipureintro; rfl
  isplitl [H33]
  · iexists _; iexists _; isplitr
    swap; · iexact H33
    ipureintro; rfl
  iexists _; iexists _; isplitr
  swap; · iexact H34
  ipureintro; rfl

end Cert.InprojIdeal.Body

end
-- ==== Proof.InprojIdealRun.lean ====
module

public import proofs.«01_k».proof.Proof.InprojIdealBody
public import Idealize.ShloMosaic.Lib.Claim

@[expose] public section

set_option maxRecDepth 16384

noncomputable section

namespace Cert.InprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.InprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs of which nothing is said. -/
def fgt : Fin cfg0.W → Bool := fun w => match w with
  | ⟨24, _⟩ => true
  | ⟨25, _⟩ => true
  | ⟨27, _⟩ => true
  | ⟨28, _⟩ => true
  | _ => false

/-- The launch's scratch, buffer by buffer. -/
theorem scratch_eq (c : Dev nD) :
    (Pipeline.ΦA spec0 c : sProp 𝕄) = iprop(iprop((∃ d, owns (c : Thread nD τ) (Memref.whole cc0_scratch0 : Memref sig .tc .vmem S8x640x128 .f32) fullShare d) ∗ (∃ d, owns (c : Thread nD τ) (Memref.whole cc0_scratch1 : Memref sig .tc .vmem S8x512x128 .f32) fullShare d) ∗ (∃ d, owns (c : Thread nD τ) (Memref.whole cc0_scratch2 : Memref sig .tc .vmem S8x512x128 .f32) fullShare d) ∗ (∃ d, owns (c : Thread nD τ) (Memref.whole cc0_scratch3 : Memref sig .tc .vmem S8x8x128 .f32) fullShare d) ∗ (∃ d, owns (c : Thread nD τ) (Memref.whole cc0_scratch4 : Memref sig .tc .vmem S8x512x128 .f32) fullShare d)) ∗ (∃ r, prngReg c r)) := by
  unfold Pipeline.ΦA; rw [scopedRest0_eq]; simp only [owns_whole]; try rfl

/-- What each window's buffer holds after each point, and the scratch between points, at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => zgBlk (iblk m c 0 t) (iblk m c 4 t) (iblk m c 5 t)
    | ⟨22, _⟩ => gateBlk (iblk m c 0 t) (iblk m c 4 t) (iblk m c 7 t)
    | ⟨23, _⟩ => gateBlk (iblk m c 0 t) (iblk m c 4 t) (iblk m c 8 t)
    | ⟨24, _⟩ => iblk m c 24 t
    | ⟨25, _⟩ => iblk m c 25 t
    | ⟨26, _⟩ => vBlk (iblk m c 0 t) (iblk m c 4 t) (iblk m c 5 t) (iblk m c 11 t) (iblk m c 12 t)
    | ⟨27, _⟩ => iblk m c 27 t
    | ⟨28, _⟩ => iblk m c 28 t
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = zgBlk (iblk m c 0 t) (iblk m c 4 t) (iblk m c 5 t) := by dsimp only [dats]
theorem after0_22 (c : Dev nD) (t : Fin cfg0.N) : (dats m 0 c).after 22 t = gateBlk (iblk m c 0 t) (iblk m c 4 t) (iblk m c 7 t) := by dsimp only [dats]
theorem after0_23 (c : Dev nD) (t : Fin cfg0.N) : (dats m 0 c).after 23 t = gateBlk (iblk m c 0 t) (iblk m c 4 t) (iblk m c 8 t) := by dsimp only [dats]
theorem after0_26 (c : Dev nD) (t : Fin cfg0.N) : (dats m 0 c).after 26 t = vBlk (iblk m c 0 t) (iblk m c 4 t) (iblk m c 5 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ X, owns (c : Thread nD τ) (st0_24 t) fullShare X)
    ∗ (∃ X, owns (c : Thread nD τ) (st0_25 t) fullShare X)
    ∗ (∃ d, owns (c : Thread nD τ) (st0_26 t) fullShare ((dats m 0 c).before 26 t d))
    ∗ (∃ X, owns (c : Thread nD τ) (st0_27 t) fullShare X)
    ∗ (∃ X, owns (c : Thread nD τ) (st0_28 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ (∃ X, owns (c : Thread nD τ) (st0_24 t) fullShare X)
    ∗ (∃ X, owns (c : Thread nD τ) (st0_25 t) fullShare X)
    ∗ owns (c : Thread nD τ) (st0_26 t) fullShare ((dats m 0 c).after 26 t)
    ∗ (∃ X, owns (c : Thread nD τ) (st0_27 t) fullShare X)
    ∗ (∃ X, owns (c : Thread nD τ) (st0_28 t) fullShare X))

set_option maxHeartbeats 0 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_26]
  rw [show (dats m 0 c).Φ t.succ = Pipeline.ΦA spec0 c from rfl, show (dats m 0 c).Φ t.castSucc = Pipeline.ΦA spec0 c from rfl, scratch_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, H18, H19, H20, H21, H22, H23, H24, H25, H26, H27, H28, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The pipeline calls the body as `bodyAt0` writes it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The body's obligation at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every run ends with the pipeline's arrays at what the points left, as far as it is said, everything else as the region
    found it, and every semaphore counter at zero. -/
theorem run_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The arguments are left as they were. -/
theorem args_kept {r : PUnit × MemSt nD τ sig (Elt F)} (h : Pipeline.RDat.FramePost cfg0 (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨(Pipeline.RDat.FramePost.arr_in h c 2 rfl).trans ((A_eq m c 2).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- The frame: every run ends, the arguments unchanged, the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => args_kept m h.1 c, h.2⟩) (run_quiescent m ρ)

end Cert.InprojIdeal.Body

end
-- ==== Proof.InprojValue.lean ====
/- The arrays that the first projections' call leaves for the gates and for the attention's values, over the extended
   reals: each of them is a row of the residual stream, normed, times some columns of the weights. -/
module

public import proofs.«01_k».proof.Proof.InprojIdealRun
public import proofs.«01_k».proof.Proof.Rows
public import Idealize.ShloMosaic.Lib.Pointwise
public import Idealize.ShloMosaic.Lib.Pipeline.ValueKit

@[expose] public section

set_option maxRecDepth 16384
set_option maxHeartbeats 1600000

noncomputable section

namespace Cert.InprojIdeal.Body

open Idealize.ShloMosaic Idealize.ShloMosaic.Pointwise Idealize.ShloMosaic.TcCoe
open Cert.InprojIdeal Cert.InprojIdeal.Gen Cert.Rows

/-- The root-mean-square norm of a row of the compressed keys and values, with its gains. -/
def rmsL (x g : Fin 256 → EReal) (i : Fin 256) : EReal :=
  x i * Ideal.rsqrt (Ideal.div (∑ k, x k * x k) (Ideal.ofBits .f32 0x43800000#32) + Ideal.ofBits .f32 0x358637BD#32) * g i

/-- The normed rows. -/
theorem normed (x1 : Vec Ideal S8x64x1024 .f32) (x5 : Vec Ideal S1x1024 .f32) (b : Fin 8) (r : Fin 64) (q : Fin 512) (hq : q.val = b.val * 64 + r.val)
    (i : Fin 1024) : (k0_pay7 x1 x5 (ix2 q i) : EReal) = rms (fun k => x1 (ix3 b r k)) (fun k => x5 (ix2 0 k)) i := by
  have e1 : (⟨q.val / 64, by omega⟩ : Fin 8) = b := Fin.ext (by show q.val / 64 = b.val; omega)
  have e2 : (⟨q.val % 64, by omega⟩ : Fin 64) = r := Fin.ext (by show q.val % 64 = r.val; omega)
  unfold k0_pay7
  pointwise
  simp only [e1, e2]
  rfl

section
variable (u : Vec Ideal S512x1024 .bf16) (b : Fin 8) (r : Fin 64) (j : Fin 512)

/-- A block of projected rows. -/
theorem proj (w : Vec Ideal S1024x512 .bf16) : (k0_pay245 u w (ix3 b r j) : EReal) =
    mm (fun k => u (ix2 ⟨b.val * 64 + r.val, by omega⟩ k)) (fun k j => w (ix2 k j)) j := by
  unfold k0_pay245
  pointwise
  rfl

theorem pay257 (w : Vec Ideal S1024x512 .bf16) : k0_pay257 u w = k0_pay245 u w := rfl
theorem pay266 (w : Vec Ideal S1024x512 .bf16) : k0_pay266 u w = k0_pay245 u w := rfl
theorem pay275 (w : Vec Ideal S1024x512 .bf16) : k0_pay275 u w = k0_pay245 u w := rfl

theorem ld_zl (x : Vec Ideal S1024x2688 .bf16) (k : Fin 1024) : View.ld x rzl (ix2 k j) = x (ix2 k ⟨1024 + j.val, by omega⟩) := by pointwise
theorem ld_zr (x : Vec Ideal S1024x2688 .bf16) (k : Fin 1024) : View.ld x rzr (ix2 k j) = x (ix2 k ⟨1536 + j.val, by omega⟩) := by pointwise
theorem ld_gl (x : Vec Ideal S1024x1024 .bf16) (k : Fin 1024) : View.ld x rgl (ix2 k j) = x (ix2 k ⟨j.val, by omega⟩) := by pointwise
theorem ld_gr (x : Vec Ideal S1024x1024 .bf16) (k : Fin 1024) : View.ld x rgr (ix2 k j) = x (ix2 k ⟨512 + j.val, by omega⟩) := by pointwise
end

/-- Two stores of halves, read at a row. -/
theorem canon_row (wr wl : Vec Ideal S8x64x512 .bf16) (G : Fin 1024 → EReal) (b : Fin 8) (r : Fin 64)
    (gl : ∀ j : Fin 512, wl (ix3 b r j) = G ⟨j.val, by omega⟩) (gr : ∀ j : Fin 512, wr (ix3 b r j) = G ⟨512 + j.val, by omega⟩)
    (J : Fin 1024) : View.canon (Val := Elt Ideal) [⟨rr, wr⟩, ⟨rl, wl⟩] (ix3 b r J) = G J := by
  canon_tiles x h using halves_cover wr wl (ix3 b r J)
  · obtain ⟨a, r', d, rfl⟩ : ∃ (a : Fin 8) (r : Fin 64) (d : Fin 512), x = ix3 a r d := ⟨x 0, x 1, x 2, eq_ix3 x⟩
    obtain rfl : b = a := Fin.ext h0
    obtain rfl : r = r' := Fin.ext h1
    exact (gr d).trans (congrArg G (Fin.ext h2.symm))
  · obtain ⟨a, r', d, rfl⟩ : ∃ (a : Fin 8) (r : Fin 64) (d : Fin 512), x = ix3 a r d := ⟨x 0, x 1, x 2, eq_ix3 x⟩
    obtain rfl : b = a := Fin.ext h0
    obtain rfl : r = r' := Fin.ext h1
    exact (gl d).trans (congrArg G (Fin.ext h2.symm))

section
variable (x1 : Vec Ideal S8x64x1024 .f32) (x5 : Vec Ideal S1x1024 .f32) (b : Fin 8) (r : Fin 64)

/-- A row of the block, normed. -/
abbrev uRow : Fin 1024 → EReal := rms (fun k => x1 (ix3 b r k)) (fun k => x5 (ix2 0 k))

/-- A block of the recurrence's gate. -/
theorem zg_row (x6 : Vec Ideal S1024x2688 .bf16) (j : Fin 1024) : (zgBlk x1 x5 x6 (ix3 b r j) : EReal) =
    mm (uRow x1 x5 b r) (fun k j => x6 (ix2 k ⟨1024 + j.val, by omega⟩)) j := by
  unfold zgBlk
  refine canon_row _ _ (fun j => mm (uRow x1 x5 b r) (fun k j => x6 (ix2 k ⟨1024 + j.val, by omega⟩)) j) b r (fun j => ?_) (fun j => ?_) j
  · exact (proj _ b r j _).trans (Finset.sum_congr rfl fun k _ => congrArg₂ (· * ·) (normed x1 x5 b r _ rfl k) (ld_zl j x6 k))
  · rw [pay257]
    refine (proj _ b r j _).trans (Finset.sum_congr rfl fun k _ => congrArg₂ (· * ·) (normed x1 x5 b r _ rfl k) ((ld_zr j x6 k).trans ?_))
    have e : (⟨1536 + j.val, by omega⟩ : Fin 2688) = ⟨1024 + (512 + j.val), by omega⟩ := Fin.ext (by show 1536 + j.val = 1024 + (512 + j.val); omega)
    rw [e]

/-- A block of one of the mixers' gates. -/
theorem gate_row (w : Vec Ideal S1024x1024 .bf16) (j : Fin 1024) : (gateBlk x1 x5 w (ix3 b r j) : EReal) =
    mm (uRow x1 x5 b r) (fun k j => w (ix2 k j)) j := by
  unfold gateBlk
  refine canon_row _ _ (fun j => mm (uRow x1 x5 b r) (fun k j => w (ix2 k j)) j) b r (fun j => ?_) (fun j => ?_) j
  · rw [pay266]
    exact (proj _ b r j _).trans (Finset.sum_congr rfl fun k _ => congrArg₂ (· * ·) (normed x1 x5 b r _ rfl k) (ld_gl j w k))
  · rw [pay275]
    exact (proj _ b r j _).trans (Finset.sum_congr rfl fun k _ => congrArg₂ (· * ·) (normed x1 x5 b r _ rfl k) (ld_gr j w k))

/-- The keys and values of a row. -/
theorem kv_row (x6 : Vec Ideal S1024x2688 .bf16) (x12 : Vec Ideal S1x256 .f32) (x13 : Vec Ideal S256x2048 .bf16) (j : Fin 2048) :
    (kv x1 x5 x6 x12 x13 (ix2 ⟨b.val * 64 + r.val, by omega⟩ j) : EReal) =
      mm (rmsL (mm (uRow x1 x5 b r) (fun k j => x6 (ix2 k ⟨2432 + j.val, by omega⟩))) (fun k => x12 (ix2 0 k))) (fun k j => x13 (ix2 k j)) j := by
  unfold kv k0_pay366
  pointwise
  simp only [normed x1 x5 b r ⟨b.val * 64 + r.val, by omega⟩ rfl]
  rfl

/-- A block of the values: head `h` takes the columns from `256 h + 128` on. -/
theorem v_row (x6 : Vec Ideal S1024x2688 .bf16) (x12 : Vec Ideal S1x256 .f32) (x13 : Vec Ideal S256x2048 .bf16) (h : Fin 8) (d : Fin 128) :
    (vBlk x1 x5 x6 x12 x13 (ix4 b h r d) : EReal) = kv x1 x5 x6 x12 x13 (ix2 ⟨b.val * 64 + r.val, by omega⟩ ⟨256 * h.val + 128 + d.val, by omega⟩) := by
  unfold vBlk
  generalize kv x1 x5 x6 x12 x13 = z
  canon_tiles x hx using heads_cover _ _ _ _ _ _ _ _ (ix4 b h r d)
  all_goals
    obtain ⟨a, o, r', d', rfl⟩ : ∃ (a : Fin 8) (o : Fin 1) (r : Fin 64) (d : Fin 128), x = ix4 a o r d := ⟨x 0, x 1, x 2, x 3, eq_ix4 x⟩
    obtain rfl : o = 0 := Subsingleton.elim _ _
    obtain rfl : b = a := Fin.ext hx0
    obtain rfl : r = r' := Fin.ext hx2
    obtain rfl : d = d' := Fin.ext hx3
    change h.val = _ at hx1
  all_goals pointwise [k0_pay2, k0_pay389, k0_pay386, k0_pay383, k0_pay380, k0_pay377, k0_pay374, k0_pay371]
  all_goals exact congrArg (fun j => z (ix2 _ j)) (Fin.ext (by dsimp only; omega))
end

variable (m : (ℓ : Loc nD τ sig) → Buf (Elt Ideal) ℓ) (c : Dev nD)

/-- The grid: block `t` takes rows `64 t` to `64 t + 63` of every entry of the batch. -/
theorem idx : ∀ t : Fin cfg0.N, win0_0.index t = ![0, t.val, 0] ∧ win0_4.index t = ![0, 0] ∧ win0_5.index t = ![0, 0]
    ∧ win0_7.index t = ![0, 0] ∧ win0_8.index t = ![0, 0] ∧ win0_11.index t = ![0, 0] ∧ win0_12.index t = ![0, 0]
    ∧ win0_21.index t = ![0, t.val, 0] ∧ win0_22.index t = ![0, t.val, 0] ∧ win0_23.index t = ![0, t.val, 0]
    ∧ win0_26.index t = ![0, 0, t.val, 0] :=
  (by decide +kernel : ∀ t : Fin grid0.N, _)

/-- The residual stream, the gains and the weights as the program is given them. -/
abbrev a0 : S8x4096x1024.Idx → EReal := m ((c : Thread nD τ).loc main_arg0)
abbrev a2 : S1024.Idx → EReal := m ((c : Thread nD τ).loc main_arg2)
abbrev a3 : S1024x4800.Idx → EReal := m ((c : Thread nD τ).loc main_arg3)
abbrev a13 : S256.Idx → EReal := m ((c : Thread nD τ).loc main_arg13)
abbrev a14 : S256x2048.Idx → EReal := m ((c : Thread nD τ).loc main_arg14)

theorem iblk0_apply (t : Fin cfg0.N) (b : Fin 8) (r : Fin 64) (d : Fin 1024) (R : Fin 4096) (hR : R.val = t.val * 64 + r.val) : (iblk m c 0 t (ix3 b r d) : EReal) = a0 m c (ix3 b R d) := by
  have e : ((View.whole main_arg0).slice (win0_0.rect t)).emb (ix3 b r d) = ix3 b R d := by
    blk_ext [idx t]
  unfold iblk
  rw [View.read_apply]
  show V m c main_arg0 (((View.whole main_arg0).slice (win0_0.rect t)).emb (ix3 b r d)) = _
  rw [e]
  entry_read
  try rfl

theorem iblk4_apply (t : Fin cfg0.N) (d : Fin 1024) : (iblk m c 4 t (ix2 0 d) : EReal) = a2 m c (ix1 d) := by
  have e : ((View.whole main_v63).slice (win0_4.rect t)).emb (ix2 0 d) = ix2 0 d := by
    blk_ext [idx t]
  unfold iblk
  rw [View.read_apply]
  show V m c main_v63 (((View.whole main_v63).slice (win0_4.rect t)).emb (ix2 0 d)) = _
  rw [e]
  entry_read
  pointwise

theorem iblk5_apply (t : Fin cfg0.N) (k : Fin 1024) (j : Fin 2688) : (iblk m c 5 t (ix2 k j) : EReal) = a3 m c (ix2 k ⟨j.val, by omega⟩) := by
  have e : ((View.whole main_v37).slice (win0_5.rect t)).emb (ix2 k j) = ix2 k j := by
    blk_ext [idx t]
  unfold iblk
  rw [View.read_apply]
  show V m c main_v37 (((View.whole main_v37).slice (win0_5.rect t)).emb (ix2 k j)) = _
  rw [e]
  entry_read
  pointwise

theorem iblk7_apply (t : Fin cfg0.N) (k : Fin 1024) (j : Fin 1024) : (iblk m c 7 t (ix2 k j) : EReal) = a3 m c (ix2 k ⟨2752 + j.val, by omega⟩) := by
  have e : ((View.whole main_v39).slice (win0_7.rect t)).emb (ix2 k j) = ix2 k j := by
    blk_ext [idx t]
  unfold iblk
  rw [View.read_apply]
  show V m c main_v39 (((View.whole main_v39).slice (win0_7.rect t)).emb (ix2 k j)) = _
  rw [e]
  entry_read
  pointwise

theorem iblk8_apply (t : Fin cfg0.N) (k : Fin 1024) (j : Fin 1024) : (iblk m c 8 t (ix2 k j) : EReal) = a3 m c (ix2 k ⟨3776 + j.val, by omega⟩) := by
  have e : ((View.whole main_v40).slice (win0_8.rect t)).emb (ix2 k j) = ix2 k j := by
    blk_ext [idx t]
  unfold iblk
  rw [View.read_apply]
  show V m c main_v40 (((View.whole main_v40).slice (win0_8.rect t)).emb (ix2 k j)) = _
  rw [e]
  entry_read
  pointwise

theorem iblk11_apply (t : Fin cfg0.N) (d : Fin 256) : (iblk m c 11 t (ix2 0 d) : EReal) = a13 m c (ix1 d) := by
  have e : ((View.whole main_v65).slice (win0_11.rect t)).emb (ix2 0 d) = ix2 0 d := by
    blk_ext [idx t]
  unfold iblk
  rw [View.read_apply]
  show V m c main_v65 (((View.whole main_v65).slice (win0_11.rect t)).emb (ix2 0 d)) = _
  rw [e]
  entry_read
  pointwise

theorem iblk12_apply (t : Fin cfg0.N) (k : Fin 256) (j : Fin 2048) : (iblk m c 12 t (ix2 k j) : EReal) = a14 m c (ix2 k j) := by
  have e : ((View.whole main_v66).slice (win0_12.rect t)).emb (ix2 k j) = ix2 k j := by
    blk_ext [idx t]
  unfold iblk
  rw [View.read_apply]
  show V m c main_v66 (((View.whole main_v66).slice (win0_12.rect t)).emb (ix2 k j)) = _
  rw [e]
  entry_read
  pointwise

/-- Row `R` of an entry of the batch, normed, times columns of the weights; and the row's keys and values. -/
def uAt (b : Fin 8) (R : Fin 4096) : Fin 1024 → EReal := rms (fun k => a0 m c (ix3 b R k)) (fun k => a2 m c (ix1 k))
def zgAt (b : Fin 8) (R : Fin 4096) (j : Fin 1024) : EReal := mm (uAt m c b R) (fun k j => a3 m c (ix2 k ⟨1024 + j.val, by omega⟩)) j
def gaAt (b : Fin 8) (R : Fin 4096) (j : Fin 1024) : EReal := mm (uAt m c b R) (fun k j => a3 m c (ix2 k ⟨2752 + j.val, by omega⟩)) j
def gbAt (b : Fin 8) (R : Fin 4096) (j : Fin 1024) : EReal := mm (uAt m c b R) (fun k j => a3 m c (ix2 k ⟨3776 + j.val, by omega⟩)) j
def kvAt (b : Fin 8) (R : Fin 4096) (j : Fin 2048) : EReal :=
  mm (rmsL (mm (uAt m c b R) (fun k j => a3 m c (ix2 k ⟨2432 + j.val, by omega⟩))) (fun k => a13 m c (ix1 k))) (fun k j => a14 m c (ix2 k j)) j

section
variable (t : Fin cfg0.N) (b : Fin 8) (r : Fin 64) (R : Fin 4096) (hR : R.val = t.val * 64 + r.val)
include hR

/-- The four output blocks at a point. -/
theorem after_zg (j : Fin 1024) : ((dats m 0 c).after 21 t (ix3 b r j) : EReal) = zgAt m c b R j := by
  rw [after0_21, zg_row]
  unfold zgAt uAt uRow
  simp only [iblk0_apply m c t b r _ R hR, iblk4_apply, iblk5_apply]

theorem after_ga (j : Fin 1024) : ((dats m 0 c).after 22 t (ix3 b r j) : EReal) = gaAt m c b R j := by
  rw [after0_22, gate_row]
  unfold gaAt uAt uRow
  simp only [iblk0_apply m c t b r _ R hR, iblk4_apply, iblk7_apply]

theorem after_gb (j : Fin 1024) : ((dats m 0 c).after 23 t (ix3 b r j) : EReal) = gbAt m c b R j := by
  rw [after0_23, gate_row]
  unfold gbAt uAt uRow
  simp only [iblk0_apply m c t b r _ R hR, iblk4_apply, iblk8_apply]

theorem after_v (h : Fin 8) (d : Fin 128) : ((dats m 0 c).after 26 t (ix4 b h r d) : EReal) = kvAt m c b R ⟨256 * h.val + 128 + d.val, by omega⟩ := by
  rw [after0_26, v_row, kv_row]
  unfold kvAt uAt uRow
  simp only [iblk0_apply m c t b r _ R hR, iblk4_apply, iblk5_apply, iblk11_apply, iblk12_apply]
end

/-- The result array `zg` after the run. -/
theorem final_zg : (dats m 0 c).arrAt 21 cfg0.N = fun i : S8x4096x1024.Idx => zgAt m c (i 0) (i 1) (i 2) := by
  refine (dats m 0 c).arrAt_eq_of_covers 21 _ (by decide +kernel) fun t hf y => ?_
  obtain ⟨a, r, e, rfl⟩ : ∃ (a : Fin 8) (r : Fin 64) (e : Fin 1024), y = ix3 a r e := ⟨y 0, y 1, y 2, eq_ix3 y⟩
  have ht : t.val < 64 := t.isLt
  have hR : t.val * 64 + r.val < 4096 := by omega
  have eb : ((View.whole main_v67_0).slice (win0_21.rect t)).emb (ix3 a r e) = ix3 a (⟨t.val * 64 + r.val, hR⟩ : Fin 4096) e := by
    blk_ext [idx t]
  refine Eq.trans ?_ (Eq.trans (after_zg m c t a r ⟨t.val * 64 + r.val, hR⟩ rfl e) ?_)
  · rfl
  · show _ = (fun i : S8x4096x1024.Idx => _) (((View.whole main_v67_0).slice (win0_21.rect t)).emb (ix3 a r e))
    rw [eb]
    rfl

/-- The result array `ga` after the run. -/
theorem final_ga : (dats m 0 c).arrAt 22 cfg0.N = fun i : S8x4096x1024.Idx => gaAt m c (i 0) (i 1) (i 2) := by
  refine (dats m 0 c).arrAt_eq_of_covers 22 _ (by decide +kernel) fun t hf y => ?_
  obtain ⟨a, r, e, rfl⟩ : ∃ (a : Fin 8) (r : Fin 64) (e : Fin 1024), y = ix3 a r e := ⟨y 0, y 1, y 2, eq_ix3 y⟩
  have ht : t.val < 64 := t.isLt
  have hR : t.val * 64 + r.val < 4096 := by omega
  have eb : ((View.whole main_v67_1).slice (win0_22.rect t)).emb (ix3 a r e) = ix3 a (⟨t.val * 64 + r.val, hR⟩ : Fin 4096) e := by
    blk_ext [idx t]
  refine Eq.trans ?_ (Eq.trans (after_ga m c t a r ⟨t.val * 64 + r.val, hR⟩ rfl e) ?_)
  · rfl
  · show _ = (fun i : S8x4096x1024.Idx => _) (((View.whole main_v67_1).slice (win0_22.rect t)).emb (ix3 a r e))
    rw [eb]
    rfl

/-- The result array `gb` after the run. -/
theorem final_gb : (dats m 0 c).arrAt 23 cfg0.N = fun i : S8x4096x1024.Idx => gbAt m c (i 0) (i 1) (i 2) := by
  refine (dats m 0 c).arrAt_eq_of_covers 23 _ (by decide +kernel) fun t hf y => ?_
  obtain ⟨a, r, e, rfl⟩ : ∃ (a : Fin 8) (r : Fin 64) (e : Fin 1024), y = ix3 a r e := ⟨y 0, y 1, y 2, eq_ix3 y⟩
  have ht : t.val < 64 := t.isLt
  have hR : t.val * 64 + r.val < 4096 := by omega
  have eb : ((View.whole main_v67_2).slice (win0_23.rect t)).emb (ix3 a r e) = ix3 a (⟨t.val * 64 + r.val, hR⟩ : Fin 4096) e := by
    blk_ext [idx t]
  refine Eq.trans ?_ (Eq.trans (after_gb m c t a r ⟨t.val * 64 + r.val, hR⟩ rfl e) ?_)
  · rfl
  · show _ = (fun i : S8x4096x1024.Idx => _) (((View.whole main_v67_2).slice (win0_23.rect t)).emb (ix3 a r e))
    rw [eb]
    rfl

/-- The values after the run. -/
theorem final_v : (dats m 0 c).arrAt 26 cfg0.N = fun i : S8x8x4096x128.Idx => kvAt m c (i 0) (i 2) ⟨256 * (i 1).val + 128 + (i 3).val, by have h1 : (i 1).val < 8 := (i 1).isLt; have h3 : (i 3).val < 128 := (i 3).isLt; omega⟩ := by
  refine (dats m 0 c).arrAt_eq_of_covers 26 _ (by decide +kernel) fun t hf y => ?_
  obtain ⟨a, h, r, e, rfl⟩ : ∃ (a : Fin 8) (h : Fin 8) (r : Fin 64) (e : Fin 128), y = ix4 a h r e := ⟨y 0, y 1, y 2, y 3, eq_ix4 y⟩
  have ht : t.val < 64 := t.isLt
  have hR : t.val * 64 + r.val < 4096 := by omega
  have eb : ((View.whole main_v67_5).slice (win0_26.rect t)).emb (ix4 a h r e) = ix4 a h (⟨t.val * 64 + r.val, hR⟩ : Fin 4096) e := by
    blk_ext [idx t]
  refine Eq.trans ?_ (Eq.trans (after_v m c t a r ⟨t.val * 64 + r.val, hR⟩ rfl h e) ?_)
  · rfl
  · show _ = (fun i : S8x8x4096x128.Idx => _) (((View.whole main_v67_5).slice (win0_26.rect t)).emb (ix4 a h r e))
    rw [eb]
    rfl

end Cert.InprojIdeal.Body

end
-- ==== Proof.InprojClaim.lean ====
module

public import proofs.«01_k».proof.Defs
public import proofs.«01_k».proof.Proof.InprojValue
public import proofs.«01_k».proof.Proof.Gen.InprojRefIdeal.Run
public import proofs.«01_k».proof.Proof.Gen.InprojRefIdeal.Read
public import Idealize.ShloMosaic.Lib.Claim
public import Idealize.ShloMosaic.Lib.ReduceAll

@[expose] public section

set_option maxRecDepth 16384
set_option maxHeartbeats 1600000

noncomputable section

/-! The reference of the first projections, row by row, and the claim about the call. -/

namespace Cert.InprojClaims

open Idealize.ShloMosaic Idealize.ShloMosaic.Pointwise Idealize.SL.Sem Cert.Rows
open Cert.InprojIdeal.Body (rmsL)

section
open Cert.InprojRefIdeal Cert.InprojRefIdeal.Read
variable (x0 : S8x4096x1024.Idx → EReal) (x2 : S1024.Idx → EReal) (x3 : S1024x4800.Idx → EReal) (x13 : S256.Idx → EReal) (x14 : S256x2048.Idx → EReal)
  (b : Fin 8) (r : Fin 4096)

/-- Row `r`, normed. -/
abbrev u : Fin 1024 → EReal := rms (fun k => x0 (ix3 b r k)) (fun k => x2 (ix1 k))

theorem normed (i : Fin 1024) : (val_main_v12 (F := Ideal) x0 x2 (ix3 b r i) : EReal) = u x0 x2 b r i := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

theorem proj (j : Fin 4800) : (val_main_v13 (F := Ideal) x0 x2 x3 (ix3 b r j) : EReal) = mm (u x0 x2 b r) (fun k j => x3 (ix2 k j)) j := by
  unfold val_main_v13
  pointwise
  simp only [normed]
  rfl

theorem zg (j : Fin 1024) : (val_main_v38 (F := Ideal) x0 x2 x3 (ix3 b r j) : EReal) = mm (u x0 x2 b r) (fun k j => x3 (ix2 k ⟨1024 + j.val, by omega⟩)) j := by
  unfold val_main_v38 val_main_v15
  pointwise
  rw [proj]
  rfl

theorem ga (j : Fin 1024) : (val_main_v39 (F := Ideal) x0 x2 x3 (ix3 b r j) : EReal) = mm (u x0 x2 b r) (fun k j => x3 (ix2 k ⟨2752 + j.val, by omega⟩)) j := by
  unfold val_main_v39 val_main_v19
  pointwise
  rw [proj]
  rfl

theorem gb (j : Fin 1024) : (val_main_v40 (F := Ideal) x0 x2 x3 (ix3 b r j) : EReal) = mm (u x0 x2 b r) (fun k j => x3 (ix2 k ⟨3776 + j.val, by omega⟩)) j := by
  unfold val_main_v40 val_main_v20
  pointwise
  rw [proj]
  rfl

theorem latent (j : Fin 256) : (val_main_v17 (F := Ideal) x0 x2 x3 (ix3 b r j) : EReal) = mm (u x0 x2 b r) (fun k (j : Fin 256) => x3 (ix2 k ⟨2432 + j.val, by omega⟩)) j := by
  unfold val_main_v17
  pointwise
  rw [proj]
  rfl

/-- A row's keys and values, all heads one after the other. -/
abbrev kvs : Fin 2048 → EReal :=
  mm (rmsL (mm (u x0 x2 b r) (fun k j => x3 (ix2 k ⟨2432 + j.val, by omega⟩))) (fun k => x13 (ix1 k))) (fun k j => x14 (ix2 k j))

theorem keyvals (j : Fin 2048) : (val_main_v34 (F := Ideal) x0 x2 x3 x13 x14 (ix3 b r j) : EReal) = kvs x0 x2 x3 x13 x14 b r j := by
  unfold val_main_v34 val_main_v33 val_main_v32 val_main_v31 val_main_v30 val_main_v29 val_main_v28 val_main_v27 val_main_v26 val_main_cst_4 val_main_v25 val_main_v24 val_main_cst_3 val_main_v23 val_main_v22 val_main_cst_2 val_main_v21
  pointwise
  simp only [latent]
  rfl

theorem vals (h : Fin 8) (d : Fin 128) : (val_main_v41 (F := Ideal) x0 x2 x3 x13 x14 (ix4 b h r d) : EReal) =
    kvs x0 x2 x3 x13 x14 b r ⟨256 * h.val + 128 + d.val, by omega⟩ := by
  unfold val_main_v41 val_main_v37 val_main_v36 val_main_v35
  pointwise
  rw [keyvals]
  exact congrArg _ (Fin.ext (by dsimp only; omega))

end

/-- The two programs return the same four arrays. -/
theorem inproj : Cert.algebraic_InprojIdeal_InprojRefIdeal := by
  intro m g m' g' hpre hagree
  refine ⟨fun c => (Cert.InprojIdeal.Body.dats m 0 c).arrAt 21 Cert.InprojIdeal.cfg0.N, fun c => (Cert.InprojIdeal.Body.dats m 0 c).arrAt 22 Cert.InprojIdeal.cfg0.N,
    fun c => (Cert.InprojIdeal.Body.dats m 0 c).arrAt 23 Cert.InprojIdeal.cfg0.N, fun c => (Cert.InprojIdeal.Body.dats m 0 c).arrAt 26 Cert.InprojIdeal.cfg0.N, ?_, ?_⟩
  · refine (θ_run _ _ _).mono (fun r h c => ⟨?_, ?_, ?_, ?_, Cert.InprojIdeal.Body.args_kept m h.1 c⟩) (Cert.InprojIdeal.Body.run_quiescent m g)
    · exact (Pipeline.Dat.toRForget_arrAt_iff _ rfl _ _).mp ((h.1 c).1 21)
    · exact (Pipeline.Dat.toRForget_arrAt_iff _ rfl _ _).mp ((h.1 c).1 22)
    · exact (Pipeline.Dat.toRForget_arrAt_iff _ rfl _ _).mp ((h.1 c).1 23)
    · exact (Pipeline.Dat.toRForget_arrAt_iff _ rfl _ _).mp ((h.1 c).1 26)
  · refine (θ_run _ _ _).mono (fun r h c => ?_) (Cert.InprojRefIdeal.Value.run m' g')
    obtain ⟨h0, -, h2, h3, -, -, -, -, -, -, -, -, -, h13, h14⟩ := hagree c
    obtain ⟨r0, r1, r2, r3, rest⟩ := h c
    refine ⟨?_, ?_, ?_, ?_, rest⟩
    · refine r0.trans (Eq.trans ?_ (Cert.InprojIdeal.Body.final_zg m c).symm)
      change Cert.InprojRefIdeal.Read.val_main_v38 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
      rw [h0, h2, h3]
      funext i
      obtain ⟨b, R, e, rfl⟩ : ∃ (b : Fin 8) (R : Fin 4096) (e : Fin 1024), i = ix3 b R e := ⟨i 0, i 1, i 2, eq_ix3 i⟩
      exact zg _ _ _ b R e
    · refine r1.trans (Eq.trans ?_ (Cert.InprojIdeal.Body.final_ga m c).symm)
      change Cert.InprojRefIdeal.Read.val_main_v39 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
      rw [h0, h2, h3]
      funext i
      obtain ⟨b, R, e, rfl⟩ : ∃ (b : Fin 8) (R : Fin 4096) (e : Fin 1024), i = ix3 b R e := ⟨i 0, i 1, i 2, eq_ix3 i⟩
      exact ga _ _ _ b R e
    · refine r2.trans (Eq.trans ?_ (Cert.InprojIdeal.Body.final_gb m c).symm)
      change Cert.InprojRefIdeal.Read.val_main_v40 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
      rw [h0, h2, h3]
      funext i
      obtain ⟨b, R, e, rfl⟩ : ∃ (b : Fin 8) (R : Fin 4096) (e : Fin 1024), i = ix3 b R e := ⟨i 0, i 1, i 2, eq_ix3 i⟩
      exact gb _ _ _ b R e
    · refine r3.trans (Eq.trans ?_ (Cert.InprojIdeal.Body.final_v m c).symm)
      change Cert.InprojRefIdeal.Read.val_main_v41 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg13)) (m' ((c.tc : Thread Cert.InprojRefIdeal.nD Cert.InprojRefIdeal.τ).loc Cert.InprojRefIdeal.main_arg14)) = _
      rw [h0, h2, h3, h13, h14]
      funext i
      obtain ⟨b, h, R, e, rfl⟩ : ∃ (b : Fin 8) (h : Fin 8) (R : Fin 4096) (e : Fin 128), i = ix4 b h R e := ⟨i 0, i 1, i 2, i 3, eq_ix4 i⟩
      exact vals _ _ _ _ _ b R h e

end Cert.InprojClaims

end
-- ==== Proof.lean ====
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.Pre_finite
public import proofs.«01_k».proof.Proof.Gen.AttnRefIdeal.Run
public import proofs.«01_k».proof.Proof.Gen.AttnRefIdeal.Read
public import proofs.«01_k».proof.Proof.IdealRun
public import proofs.«01_k».proof.Proof.BitsRun
public import proofs.«01_k».proof.Proof.AttnValue
public import proofs.«01_k».proof.Proof.RefValue
public import proofs.«01_k».proof.Proof.AttnClaim
public import proofs.«01_k».proof.Proof.FfnClaim
public import proofs.«01_k».proof.Proof.TailClaim
public import proofs.«01_k».proof.Proof.InprojRun
public import proofs.«01_k».proof.Proof.InprojIdealRun
public import proofs.«01_k».proof.Proof.InprojClaim
public import Idealize.ShloMosaic.Lib.ReduceAll
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.Inproj.Loops
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Loops
public import proofs.«01_k».proof.Proof.Gen.InprojRefIdeal
public import proofs.«01_k».proof.Proof.Gen.InprojRefIdeal.Run
public import proofs.«01_k».proof.Proof.Gen.InprojRefIdeal.Read
public import Idealize.ShloMosaic.Adequacy
public import Idealize.ShloMosaic.Init

@[expose] public section

set_option maxRecDepth 16384

noncomputable section

namespace Cert.Proof

open Idealize.ShloMosaic Idealize.ShloMosaic.Pointwise Idealize.SL.Sem

open Cert.AttnClaims

/-- The references' frames: they declare no semaphore. -/
theorem frame_ffn_ref : Cert.quiescent_FfnRefIdeal := fun m g _ =>
  (θ_run Cert.FfnRefIdeal.defs _ _).mono (fun r h => ⟨fun c => (h c).2, sem_eq_zero_of_no_sems (by decide) r.2⟩) (Cert.FfnRefIdeal.Value.run (F := Ideal) m g)

theorem frame_tail_ref : Cert.quiescent_TailRefIdeal := fun m g _ =>
  (θ_run Cert.TailRefIdeal.defs _ _).mono (fun r h => ⟨fun c => (h c).2, sem_eq_zero_of_no_sems (by decide) r.2⟩) (Cert.TailRefIdeal.Value.run (F := Ideal) m g)

theorem frame_inproj_ref : Cert.quiescent_InprojRefIdeal := fun m g _ =>
  (θ_run Cert.InprojRefIdeal.defs _ _).mono (fun r h => ⟨fun c => (h c).2.2.2.2, sem_eq_zero_of_no_sems (by decide) r.2⟩) (Cert.InprojRefIdeal.Value.run (F := Ideal) m g)

theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts, Cert.Tail.Gen.facts, Cert.TailIdeal.Gen.facts, Cert.TailRefIdeal.Gen.facts,
  Cert.Inproj.Gen.facts, Cert.InprojIdeal.Gen.facts, Cert.InprojRefIdeal.Gen.facts, Cert.Pre_finite.Gen.facts,
  fun m g _ => Cert.Attn.Body.frame_all m g,
  fun m g _ => Cert.AttnIdeal.Body.frame_all m g,
  fun m g _ => Cert.AttnIdeal.Body.frame_all m g,
  fun m g _ => Cert.AttnClaims.frame_ref m g,
  fun m g _ => Cert.AttnClaims.frame_ref m g,
  fun m g _ => Cert.Ffn.Gen.frame m g,
  fun m g _ => Cert.FfnIdeal.Gen.frame m g,
  frame_ffn_ref,
  fun m g _ => Cert.Tail.Gen.frame m g,
  fun m g _ => Cert.TailIdeal.Gen.frame m g,
  frame_tail_ref,
  fun m g _ => Cert.Inproj.Body.frame_all m g,
  fun m g _ => Cert.InprojIdeal.Body.frame_all m g,
  frame_inproj_ref,
  IdealRules.named_const.statement Cert.AttnIdeal.κ "q_scale" .f32 0x3DD53B95#32 (((Real.sqrt 192)⁻¹ * (Real.log 2)⁻¹ : ℝ) : EReal) rfl,
  Cert.AttnClaims.attention,
  trivial,
  Cert.FfnClaims.ffn,
  trivial,
  Cert.TailClaims.tail,
  trivial,
  Cert.InprojClaims.inproj⟩

end Cert.Proof

end
